-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate_zero_bias [hPre_finite_gate_zero_bias : Cert.Pre_finite_gate_zero_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate_zero_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate_zero_bias [hPre_finite_gate_zero_bias : Cert.Pre_finite_gate_zero_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate_zero_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_gate_zero_bias [hKernelIdeal : Cert.KernelIdeal.Facts] [hPre_finite_gate_zero_bias : Cert.Pre_finite_gate_zero_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate_zero_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_gate_zero_bias [hReferenceIdeal : Cert.ReferenceIdeal.Facts] [hPre_finite_gate_zero_bias : Cert.Pre_finite_gate_zero_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate_zero_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "two_pi_over_7" .f32 0x3F65C8FA#32 ((13176795 / 14680064 : ℝ) : EReal)

def algebraic_KernelIdeal_ReferenceIdeal_pre_finite_gate_zero_bias [hKernelIdeal : Cert.KernelIdeal.Facts] [hReferenceIdeal : Cert.ReferenceIdeal.Facts] [hPre_finite_gate_zero_bias : Cert.Pre_finite_gate_zero_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate_zero_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_gate_zero_bias : Cert.Pre_finite_gate_zero_bias.Facts),
    quiescent_Kernel (hKernel := hKernel)
    ∧ quiescent_KernelIdeal (hKernelIdeal := hKernelIdeal)
    ∧ quiescent_KernelIdeal_pre_finite_gate_zero_bias (hKernelIdeal := hKernelIdeal) (hPre_finite_gate_zero_bias := hPre_finite_gate_zero_bias)
    ∧ quiescent_ReferenceIdeal (hReferenceIdeal := hReferenceIdeal)
    ∧ quiescent_ReferenceIdeal_pre_finite_gate_zero_bias (hReferenceIdeal := hReferenceIdeal) (hPre_finite_gate_zero_bias := hPre_finite_gate_zero_bias)
    ∧ preserves_Kernel_KernelIdeal
    ∧ algebraic_KernelIdeal_ReferenceIdeal_pre_finite_gate_zero_bias (hKernelIdeal := hKernelIdeal) (hReferenceIdeal := hReferenceIdeal) (hPre_finite_gate_zero_bias := hPre_finite_gate_zero_bias)
-- ==== Pre_finite_gate_zero_bias.lean ====
abbrev S1024x256 : Shape := ⟨2, ![1024, 256]⟩
abbrev S256x256 : Shape := ⟨2, ![256, 256]⟩
abbrev S256 : Shape := ⟨1, ![256]⟩
abbrev S276x4 : Shape := ⟨2, ![276, 4]⟩
abbrev S4 : Shape := ⟨1, ![4]⟩
abbrev S4x276x16 : Shape := ⟨3, ![4, 276, 16]⟩
abbrev S4x16 : Shape := ⟨2, ![4, 16]⟩
abbrev S4x16x256 : Shape := ⟨3, ![4, 16, 256]⟩
abbrev S4x256 : Shape := ⟨2, ![4, 256]⟩
abbrev S256x32000 : Shape := ⟨2, ![256, 32000]⟩
abbrev S32000 : Shape := ⟨1, ![32000]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S276x4 : S_.BroadcastsInDim S276x4 (![] : Fin 0 → Fin S276x4.rank)
  reducesTo_S276x4_S_d0_1 : S276x4.ReducesTo [0, 1] S_
  bcast_S_S4 : S_.BroadcastsInDim S4 (![] : Fin 0 → Fin S4.rank)
  reducesTo_S4_S_d0 : S4.ReducesTo [0] S_
  bcast_S_S32000 : S_.BroadcastsInDim S32000 (![] : Fin 0 → Fin S32000.rank)
  reducesTo_S32000_S_d0 : S32000.ReducesTo [0] S_

variable [Facts]

def fn_part1 {F : FTy → Type} [FloatOps F] (main_arg4 : FVec F S4 .f32) (main_arg10 : FVec F S32000 .f32) (main_v13 : IVec S_ 1) (main_v16 : IVec S276x4 1) : IVec S_ 1 :=
  let main_c_5 : IVec S_ 1 := constantI S_ 1 1#1
  let main_v17 : IVec S_ 1 := (fun x v => Host.reduce IntOp.andi x v reducesTo_S276x4_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_cst_8 : FVec F S_ .f32 := constant S_ .f32 0x00000000#32
  let main_v24 : FVec F S32000 .f32 := broadcastInDim S32000 ![] bcast_S_S32000 main_cst_8
  let main_v25 : IVec S32000 1 := cmpf .oeq main_arg10 main_v24
  let main_c_9 : IVec S_ 1 := constantI S_ 1 1#1
  let main_v26 : IVec S_ 1 := (fun x v => Host.reduce IntOp.andi x v reducesTo_S32000_S_d0 h_S_) main_v25 main_c_9
  let main_v27 : IVec S_ 1 := andi main_v23 main_v26
  main_v27

def fn {F : FTy → Type} [FloatOps F] (main_arg0 : FVec F S1024x256 .f32) (main_arg1 : FVec F S256x256 .f32) (main_arg2 : FVec F S256 .f32) (main_arg3 : FVec F S276x4 .f32) (main_arg4 : FVec F S4 .f32) (main_arg5 : FVec F S4x276x16 .f32) (main_arg6 : FVec F S4x16 .f32) (main_arg7 : FVec F S4x16x256 .f32) (main_arg8 : FVec F S4x256 .f32) (main_arg9 : FVec F S256x32000 .f32) (main_arg10 : FVec F S32000 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S276x4 .f32 := Host.absf main_arg3
  let main_cst_4 : FVec F S_ .f32 := constant S_ .f32 0x7F800000#32
  let main_v15 : FVec F S276x4 .f32 := broadcastInDim S276x4 ![] bcast_S_S276x4 main_cst_4
  let main_v16 : IVec S276x4 1 := cmpf .olt main_v14 main_v15
  fn_part1 (F := F) main_arg4 main_arg10 main_v13 main_v16
-- ==== Kernel.lean ====
abbrev S1024x256 : Shape := ⟨2, ![1024, 256]⟩
abbrev S256x256 : Shape := ⟨2, ![256, 256]⟩
abbrev S256 : Shape := ⟨1, ![256]⟩
abbrev S276x4 : Shape := ⟨2, ![276, 4]⟩
abbrev S4 : Shape := ⟨1, ![4]⟩
abbrev S4x276x16 : Shape := ⟨3, ![4, 276, 16]⟩
abbrev S4x16 : Shape := ⟨2, ![4, 16]⟩
abbrev S4x16x256 : Shape := ⟨3, ![4, 16, 256]⟩
abbrev S4x256 : Shape := ⟨2, ![4, 256]⟩
abbrev S256x32000 : Shape := ⟨2, ![256, 32000]⟩
abbrev S32000 : Shape := ⟨1, ![32000]⟩
abbrev S256x4 : Shape := ⟨2, ![256, 4]⟩
abbrev S10x4 : Shape := ⟨2, ![10, 4]⟩
abbrev S_ : Shape := ⟨0, ![]⟩
abbrev S6x4 : Shape := ⟨2, ![6, 4]⟩
abbrev S16x4 : Shape := ⟨2, ![16, 4]⟩
abbrev S276x4x16 : Shape := ⟨3, ![276, 4, 16]⟩
abbrev S276x64 : Shape := ⟨2, ![276, 64]⟩
abbrev S256x64 : Shape := ⟨2, ![256, 64]⟩
abbrev S10x64 : Shape := ⟨2, ![10, 64]⟩
abbrev S6x64 : Shape := ⟨2, ![6, 64]⟩
abbrev S16x64 : Shape := ⟨2, ![16, 64]⟩
abbrev S1x64 : Shape := ⟨2, ![1, 64]⟩
abbrev S64x256 : Shape := ⟨2, ![64, 256]⟩
abbrev S4x4 : Shape := ⟨2, ![4, 4]⟩
abbrev S1x16 : Shape := ⟨2, ![1, 16]⟩
abbrev S4x1x4x1 : Shape := ⟨4, ![4, 1, 4, 1]⟩
abbrev S1x1x1x16 : Shape := ⟨4, ![1, 1, 1, 16]⟩
abbrev S4x1x4x16 : Shape := ⟨4, ![4, 1, 4, 16]⟩
abbrev S4x64 : Shape := ⟨2, ![4, 64]⟩
abbrev S1x256 : Shape := ⟨2, ![1, 256]⟩
abbrev S1x4 : Shape := ⟨2, ![1, 4]⟩
abbrev S1x32000 : Shape := ⟨2, ![1, 32000]⟩
abbrev S1024x32000 : Shape := ⟨2, ![1024, 32000]⟩
abbrev S256x5248 : Shape := ⟨2, ![256, 5248]⟩
abbrev S1024x5248 : Shape := ⟨2, ![1024, 5248]⟩
abbrev S1024 : Shape := ⟨1, ![1024]⟩
abbrev S1024x1 : Shape := ⟨2, ![1024, 1]⟩
abbrev S1x1024 : Shape := ⟨2, ![1, 1024]⟩
abbrev S16x1 : Shape := ⟨2, ![16, 1]⟩
abbrev S16x1024 : Shape := ⟨2, ![16, 1024]⟩
abbrev S1024x4 : Shape := ⟨2, ![1024, 4]⟩
abbrev S1024x64 : Shape := ⟨2, ![1024, 64]⟩
abbrev S1x1x256 : Shape := ⟨3, ![1, 1, 256]⟩
abbrev S1 : Shape := ⟨1, ![1]⟩
abbrev S1x1x1 : Shape := ⟨3, ![1, 1, 1]⟩

abbrev nBuf : Space → Nat
  | .hbm => 52
  | .vmem => 19
  | .smem => 0
  | _ => 0

abbrev bufTy : (tb : Table) → Fin (tcTables nBuf tb) → BufTy
  | .hbm, ⟨0, _⟩ => ⟨S1024x256, .f32⟩
  | .hbm, ⟨1, _⟩ => ⟨S256x256, .f32⟩
  | .hbm, ⟨2, _⟩ => ⟨S256, .f32⟩
  | .hbm, ⟨3, _⟩ => ⟨S276x4, .f32⟩
  | .hbm, ⟨4, _⟩ => ⟨S4, .f32⟩
  | .hbm, ⟨5, _⟩ => ⟨S4x276x16, .f32⟩
  | .hbm, ⟨6, _⟩ => ⟨S4x16, .f32⟩
  | .hbm, ⟨7, _⟩ => ⟨S4x16x256, .f32⟩
  | .hbm, ⟨8, _⟩ => ⟨S4x256, .f32⟩
  | .hbm, ⟨9, _⟩ => ⟨S256x32000, .f32⟩
  | .hbm, ⟨10, _⟩ => ⟨S32000, .f32⟩
  | .hbm, ⟨11, _⟩ => ⟨S256x4, .f32⟩
  | .hbm, ⟨12, _⟩ => ⟨S10x4, .f32⟩
  | .hbm, ⟨13, _⟩ => ⟨S_, .f32⟩
  | .hbm, ⟨14, _⟩ => ⟨S6x4, .f32⟩
  | .hbm, ⟨15, _⟩ => ⟨S16x4, .f32⟩
  | .hbm, ⟨16, _⟩ => ⟨S10x4, .f32⟩
  | .hbm, ⟨17, _⟩ => ⟨S_, .f32⟩
  | .hbm, ⟨18, _⟩ => ⟨S6x4, .f32⟩
  | .hbm, ⟨19, _⟩ => ⟨S16x4, .f32⟩
  | .hbm, ⟨20, _⟩ => ⟨S276x4x16, .f32⟩
  | .hbm, ⟨21, _⟩ => ⟨S276x64, .f32⟩
  | .hbm, ⟨22, _⟩ => ⟨S256x64, .f32⟩
  | .hbm, ⟨23, _⟩ => ⟨S10x64, .f32⟩
  | .hbm, ⟨24, _⟩ => ⟨S_, .f32⟩
  | .hbm, ⟨25, _⟩ => ⟨S6x64, .f32⟩
  | .hbm, ⟨26, _⟩ => ⟨S16x64, .f32⟩
  | .hbm, ⟨27, _⟩ => ⟨S10x64, .f32⟩
  | .hbm, ⟨28, _⟩ => ⟨S_, .f32⟩
  | .hbm, ⟨29, _⟩ => ⟨S6x64, .f32⟩
  | .hbm, ⟨30, _⟩ => ⟨S16x64, .f32⟩
  | .hbm, ⟨31, _⟩ => ⟨S1x64, .f32⟩
  | .hbm, ⟨32, _⟩ => ⟨S64x256, .f32⟩
  | .hbm, ⟨33, _⟩ => ⟨S4x4, .i32⟩
  | .hbm, ⟨34, _⟩ => ⟨S4x4, .i32⟩
  | .hbm, ⟨35, _⟩ => ⟨S_, .i32⟩
  | .hbm, ⟨36, _⟩ => ⟨S4x4, .i32⟩
  | .hbm, ⟨37, _⟩ => ⟨S4x4, .i32⟩
  | .hbm, ⟨38, _⟩ => ⟨S4x4, .i1⟩
  | .hbm, ⟨39, _⟩ => ⟨S4x4, .f32⟩
  | .hbm, ⟨40, _⟩ => ⟨S_, .f32⟩
  | .hbm, ⟨41, _⟩ => ⟨S1x16, .f32⟩
  | .hbm, ⟨42, _⟩ => ⟨S4x1x4x1, .f32⟩
  | .hbm, ⟨43, _⟩ => ⟨S1x1x1x16, .f32⟩
  | .hbm, ⟨44, _⟩ => ⟨S4x1x4x16, .f32⟩
  | .hbm, ⟨45, _⟩ => ⟨S4x1x4x16, .f32⟩
  | .hbm, ⟨46, _⟩ => ⟨S4x1x4x16, .f32⟩
  | .hbm, ⟨47, _⟩ => ⟨S4x64, .f32⟩
  | .hbm, ⟨48, _⟩ => ⟨S1x256, .f32⟩
  | .hbm, ⟨49, _⟩ => ⟨S1x4, .f32⟩
  | .hbm, ⟨50, _⟩ => ⟨S1x32000, .f32⟩
  | .hbm, ⟨51, _⟩ => ⟨S1024x32000, .f32⟩
  | .local _ .vmem, ⟨0, _⟩ => ⟨S1024x256, .f32⟩
  | .local _ .vmem, ⟨1, _⟩ => ⟨S256x256, .f32⟩
  | .local _ .vmem, ⟨2, _⟩ => ⟨S1x256, .f32⟩
  | .local _ .vmem, ⟨3, _⟩ => ⟨S256x4, .f32⟩
  | .local _ .vmem, ⟨4, _⟩ => ⟨S16x4, .f32⟩
  | .local _ .vmem, ⟨5, _⟩ => ⟨S16x4, .f32⟩
  | .local _ .vmem, ⟨6, _⟩ => ⟨S1x4, .f32⟩
  | .local _ .vmem, ⟨7, _⟩ => ⟨S256x64, .f32⟩
  | .local _ .vmem, ⟨8, _⟩ => ⟨S16x64, .f32⟩
  | .local _ .vmem, ⟨9, _⟩ => ⟨S16x64, .f32⟩
  | .local _ .vmem, ⟨10, _⟩ => ⟨S1x64, .f32⟩
  | .local _ .vmem, ⟨11, _⟩ => ⟨S4x64, .f32⟩
  | .local _ .vmem, ⟨12, _⟩ => ⟨S64x256, .f32⟩
  | .local _ .vmem, ⟨13, _⟩ => ⟨S4x256, .f32⟩
  | .local _ .vmem, ⟨14, _⟩ => ⟨S256x5248, .f32⟩
  | .local _ .vmem, ⟨15, _⟩ => ⟨S256x5248, .f32⟩
  | .local _ .vmem, ⟨16, _⟩ => ⟨S1024x5248, .f32⟩
  | .local _ .vmem, ⟨17, _⟩ => ⟨S1024x5248, .f32⟩
  | .local _ .vmem, ⟨18, _⟩ => ⟨S1024x256, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_cst_0 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_cst_1 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst_2 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_c : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_call0_v23 : Ref sig .tc := ⟨.hbm, 39, rfl⟩
abbrev main_call0_cst_3 : Ref sig .tc := ⟨.hbm, 40, rfl⟩
abbrev main_call0_v24 : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_v25 : Ref sig .tc := ⟨.hbm, 47, rfl⟩
abbrev main_call0_v26 : Ref sig .tc := ⟨.hbm, 48, rfl⟩
abbrev main_call0_v27 : Ref sig .tc := ⟨.hbm, 49, rfl⟩
abbrev main_call0_v28 : Ref sig .tc := ⟨.hbm, 50, rfl⟩
abbrev main_v0 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg14_1 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem14_1 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x5248 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x5248 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "two_pi_over_7" => some ((13176795 / 14680064 : ℝ) : EReal)
  | _ => none
-- ==== ReferenceIdeal.lean ====
abbrev S1024x256 : Shape := ⟨2, ![1024, 256]⟩
abbrev S256x256 : Shape := ⟨2, ![256, 256]⟩
abbrev S256 : Shape := ⟨1, ![256]⟩
abbrev S276x4 : Shape := ⟨2, ![276, 4]⟩
abbrev S4 : Shape := ⟨1, ![4]⟩
abbrev S4x276x16 : Shape := ⟨3, ![4, 276, 16]⟩
abbrev S4x16 : Shape := ⟨2, ![4, 16]⟩
abbrev S4x16x256 : Shape := ⟨3, ![4, 16, 256]⟩
abbrev S4x256 : Shape := ⟨2, ![4, 256]⟩
abbrev S256x32000 : Shape := ⟨2, ![256, 32000]⟩
abbrev S32000 : Shape := ⟨1, ![32000]⟩
abbrev S1x256 : Shape := ⟨2, ![1, 256]⟩
abbrev S_ : Shape := ⟨0, ![]⟩
abbrev S1024 : Shape := ⟨1, ![1024]⟩
abbrev S10 : Shape := ⟨1, ![10]⟩
abbrev S1x10 : Shape := ⟨2, ![1, 10]⟩
abbrev S1024x1 : Shape := ⟨2, ![1024, 1]⟩
abbrev S1024x10 : Shape := ⟨2, ![1024, 10]⟩
abbrev S1024x20 : Shape := ⟨2, ![1024, 20]⟩
abbrev S1024x276 : Shape := ⟨2, ![1024, 276]⟩
abbrev S1024x4 : Shape := ⟨2, ![1024, 4]⟩
abbrev S1x4 : Shape := ⟨2, ![1, 4]⟩
abbrev S1024x4x16 : Shape := ⟨3, ![1024, 4, 16]⟩
abbrev S1x4x16 : Shape := ⟨3, ![1, 4, 16]⟩
abbrev S4x256x1024 : Shape := ⟨3, ![4, 256, 1024]⟩
abbrev S1024x4x256 : Shape := ⟨3, ![1024, 4, 256]⟩
abbrev S1x4x256 : Shape := ⟨3, ![1, 4, 256]⟩
abbrev S20 : Shape := ⟨1, ![20]⟩
abbrev S20x1 : Shape := ⟨2, ![20, 1]⟩
abbrev S5 : Shape := ⟨1, ![5]⟩
abbrev S5x1 : Shape := ⟨2, ![5, 1]⟩
abbrev S1024x32000 : Shape := ⟨2, ![1024, 32000]⟩
abbrev S1x32000 : Shape := ⟨2, ![1, 32000]⟩

abbrev nBuf : Space → Nat
  | .hbm => 159
  | .vmem => 0
  | .smem => 0
  | _ => 0

abbrev hbmTy0_0 (i : Nat) : BufTy := match i % 128 with
  | 0 => ⟨S1024x256, .f32⟩
  | 1 => ⟨S256x256, .f32⟩
  | 2 => ⟨S256, .f32⟩
  | 3 => ⟨S276x4, .f32⟩
  | 4 => ⟨S4, .f32⟩
  | 5 => ⟨S4x276x16, .f32⟩
  | 6 => ⟨S4x16, .f32⟩
  | 7 => ⟨S4x16x256, .f32⟩
  | 8 => ⟨S4x256, .f32⟩
  | 9 => ⟨S256x32000, .f32⟩
  | 10 => ⟨S32000, .f32⟩
  | 11 => ⟨S1024x256, .f32⟩
  | 12 => ⟨S1x256, .f32⟩
  | 13 => ⟨S1024x256, .f32⟩
  | 14 => ⟨S1024x256, .f32⟩
  | 15 => ⟨S_, .f32⟩
  | 16 => ⟨S1024, .f32⟩
  | 17 => ⟨S_, .f32⟩
  | 18 => ⟨S1024, .f32⟩
  | 19 => ⟨S1024, .f32⟩
  | 20 => ⟨S10, .f32⟩
  | 21 => ⟨S_, .f32⟩
  | 22 => ⟨S10, .f32⟩
  | 23 => ⟨S10, .f32⟩
  | 24 => ⟨S1x10, .f32⟩
  | 25 => ⟨S_, .f32⟩
  | 26 => ⟨S1x10, .f32⟩
  | 27 => ⟨S1x10, .f32⟩
  | 28 => ⟨S1024x1, .f32⟩
  | 29 => ⟨S1024x10, .f32⟩
  | 30 => ⟨S1024x10, .f32⟩
  | 31 => ⟨S1024x10, .f32⟩
  | 32 => ⟨S_, .f32⟩
  | 33 => ⟨S1024x10, .f32⟩
  | 34 => ⟨S1024x10, .f32⟩
  | 35 => ⟨S1024x10, .f32⟩
  | 36 => ⟨S1024x10, .f32⟩
  | 37 => ⟨S1024x20, .f32⟩
  | 38 => ⟨S1024x276, .f32⟩
  | 39 => ⟨S1024x4, .f32⟩
  | 40 => ⟨S1x4, .f32⟩
  | 41 => ⟨S1024x4, .f32⟩
  | 42 => ⟨S1024x4, .f32⟩
  | 43 => ⟨S_, .f32⟩
  | 44 => ⟨S1024, .f32⟩
  | 45 => ⟨S_, .f32⟩
  | 46 => ⟨S1024, .f32⟩
  | 47 => ⟨S1024, .f32⟩
  | 48 => ⟨S1024x1, .f32⟩
  | 49 => ⟨S1024x4, .f32⟩
  | 50 => ⟨S1024x4, .f32⟩
  | 51 => ⟨S1024x4, .f32⟩
  | 52 => ⟨S_, .f32⟩
  | 53 => ⟨S1024, .f32⟩
  | 54 => ⟨S1024x1, .f32⟩
  | 55 => ⟨S1024x4, .f32⟩
  | 56 => ⟨S1024x4, .f32⟩
  | 57 => ⟨S1024x4x16, .f32⟩
  | 58 => ⟨S1x4x16, .f32⟩
  | 59 => ⟨S1024x4x16, .f32⟩
  | 60 => ⟨S1024x4x16, .f32⟩
  | 61 => ⟨S_, .f32⟩
  | 62 => ⟨S1024x4x16, .f32⟩
  | 63 => ⟨S1024x4x16, .f32⟩
  | 64 => ⟨S_, .f32⟩
  | 65 => ⟨S1024x4x16, .f32⟩
  | 66 => ⟨S1024x4x16, .f32⟩
  | 67 => ⟨S1024x4x16, .f32⟩
  | 68 => ⟨S1024x4x16, .f32⟩
  | 69 => ⟨S_, .f32⟩
  | 70 => ⟨S1024x4x16, .f32⟩
  | 71 => ⟨S1024x4x16, .f32⟩
  | 72 => ⟨S_, .f32⟩
  | 73 => ⟨S1024x4x16, .f32⟩
  | 74 => ⟨S1024x4x16, .f32⟩
  | 75 => ⟨S4x256x1024, .f32⟩
  | 76 => ⟨S1024x4x256, .f32⟩
  | 77 => ⟨S1x4x256, .f32⟩
  | 78 => ⟨S1024x4x256, .f32⟩
  | 79 => ⟨S1024x4x256, .f32⟩
  | 80 => ⟨S1024x256, .f32⟩
  | 81 => ⟨S1x256, .f32⟩
  | 82 => ⟨S256, .f32⟩
  | 83 => ⟨S256, .f32⟩
  | 84 => ⟨S256, .i32⟩
  | 85 => ⟨S256, .f32⟩
  | 86 => ⟨S256, .i32⟩
  | 87 => ⟨S20, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S20, .i32⟩
  | 95 => ⟨S20, .i32⟩
  | 96 => ⟨S_, .i32⟩
  | 97 => ⟨S20, .i32⟩
  | 98 => ⟨S20, .i1⟩
  | 99 => ⟨S_, .i32⟩
  | 100 => ⟨S20, .i32⟩
  | 101 => ⟨S20, .i1⟩
  | 102 => ⟨S_, .i32⟩
  | 103 => ⟨S_, .i1⟩
  | 104 => ⟨S20, .i1⟩
  | 105 => ⟨S20, .i1⟩
  | 106 => ⟨S20, .i1⟩
  | 107 => ⟨S20, .i32⟩
  | 108 => ⟨S20, .i32⟩
  | 109 => ⟨S20, .i32⟩
  | 110 => ⟨S20, .f32⟩
  | 111 => ⟨S_, .f32⟩
  | 112 => ⟨S20, .f32⟩
  | 113 => ⟨S20, .f32⟩
  | 114 => ⟨S_, .f32⟩
  | 115 => ⟨S20, .f32⟩
  | 116 => ⟨S20, .f32⟩
  | 117 => ⟨S_, .f32⟩
  | 118 => ⟨S20, .f32⟩
  | 119 => ⟨S20, .f32⟩
  | 120 => ⟨S_, .f32⟩
  | 121 => ⟨S32000, .f32⟩
  | 122 => ⟨S_, .i32⟩
  | 123 => ⟨S20, .i32⟩
  | 124 => ⟨S20, .i1⟩
  | 125 => ⟨S_, .i32⟩
  | 126 => ⟨S20, .i32⟩
  | 127 => ⟨S20, .i32⟩
  | _ => ⟨S1024x256, .f32⟩

abbrev hbmTy0_1 (i : Nat) : BufTy := match i % 128 with
  | 0 => ⟨S20, .i32⟩
  | 1 => ⟨S20x1, .i32⟩
  | 2 => ⟨S32000, .f32⟩
  | 3 => ⟨S5, .f32⟩
  | 4 => ⟨S5, .i32⟩
  | 5 => ⟨S_, .f32⟩
  | 6 => ⟨S5, .f32⟩
  | 7 => ⟨S5, .i1⟩
  | 8 => ⟨S_, .f32⟩
  | 9 => ⟨S_, .f32⟩
  | 10 => ⟨S5, .f32⟩
  | 11 => ⟨S5, .f32⟩
  | 12 => ⟨S_, .f32⟩
  | 13 => ⟨S32000, .f32⟩
  | 14 => ⟨S_, .i32⟩
  | 15 => ⟨S5, .i32⟩
  | 16 => ⟨S5, .i1⟩
  | 17 => ⟨S_, .i32⟩
  | 18 => ⟨S5, .i32⟩
  | 19 => ⟨S5, .i32⟩
  | 20 => ⟨S5, .i32⟩
  | 21 => ⟨S5x1, .i32⟩
  | 22 => ⟨S32000, .f32⟩
  | 23 => ⟨S256, .f32⟩
  | 24 => ⟨S1x256, .f32⟩
  | 25 => ⟨S1024x256, .f32⟩
  | 26 => ⟨S1024x256, .f32⟩
  | 27 => ⟨S1024x32000, .f32⟩
  | 28 => ⟨S1x32000, .f32⟩
  | 29 => ⟨S1024x32000, .f32⟩
  | 30 => ⟨S1024x32000, .f32⟩
  | _ => ⟨S1024x256, .f32⟩

abbrev hbmTy (i : Nat) : BufTy := match i / 128 with
  | 0 => hbmTy0_0 i
  | 1 => hbmTy0_1 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call0_v0 : Ref sig .tc := ⟨.hbm, 84, rfl⟩
abbrev main_call0_v1_0 : Ref sig .tc := ⟨.hbm, 85, rfl⟩
abbrev main_v61 : Ref sig .tc := ⟨.hbm, 86, rfl⟩
abbrev main_v62 : Ref sig .tc := ⟨.hbm, 87, rfl⟩
abbrev main_c : Ref sig .tc := ⟨.hbm, 88, rfl⟩
abbrev main_call1_v0 : Ref sig .tc := ⟨.hbm, 89, rfl⟩
abbrev main_call1_c : Ref sig .tc := ⟨.hbm, 90, rfl⟩
abbrev main_call1_v1 : Ref sig .tc := ⟨.hbm, 91, rfl⟩
abbrev main_call1_c_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_c_1 : Ref sig .tc := ⟨.hbm, 96, rfl⟩
abbrev main_call1_v5 : Ref sig .tc := ⟨.hbm, 97, rfl⟩
abbrev main_call1_v6 : Ref sig .tc := ⟨.hbm, 98, rfl⟩
abbrev main_call1_c_2 : Ref sig .tc := ⟨.hbm, 99, rfl⟩
abbrev main_call1_v7 : Ref sig .tc := ⟨.hbm, 100, rfl⟩
abbrev main_call1_v8 : Ref sig .tc := ⟨.hbm, 101, rfl⟩
abbrev main_call1_c_3 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_v12 : Ref sig .tc := ⟨.hbm, 106, rfl⟩
abbrev main_call1_v13 : Ref sig .tc := ⟨.hbm, 107, rfl⟩
abbrev main_call1_v14 : Ref sig .tc := ⟨.hbm, 108, rfl⟩
abbrev main_v63 : Ref sig .tc := ⟨.hbm, 109, rfl⟩
abbrev main_v64 : Ref sig .tc := ⟨.hbm, 110, rfl⟩
abbrev main_cst_11 : Ref sig .tc := ⟨.hbm, 111, rfl⟩
abbrev main_v65 : Ref sig .tc := ⟨.hbm, 112, rfl⟩
abbrev main_v66 : Ref sig .tc := ⟨.hbm, 113, rfl⟩
abbrev main_cst_12 : Ref sig .tc := ⟨.hbm, 114, rfl⟩
abbrev main_v67 : Ref sig .tc := ⟨.hbm, 115, rfl⟩
abbrev main_v68 : Ref sig .tc := ⟨.hbm, 116, rfl⟩
abbrev main_cst_13 : Ref sig .tc := ⟨.hbm, 117, rfl⟩
abbrev main_v69 : Ref sig .tc := ⟨.hbm, 118, rfl⟩
abbrev main_v70 : Ref sig .tc := ⟨.hbm, 119, rfl⟩
abbrev main_cst_14 : Ref sig .tc := ⟨.hbm, 120, rfl⟩
abbrev main_v71 : Ref sig .tc := ⟨.hbm, 121, rfl⟩
abbrev main_c_15 : Ref sig .tc := ⟨.hbm, 122, rfl⟩
abbrev main_v72 : Ref sig .tc := ⟨.hbm, 123, rfl⟩
abbrev main_v73 : Ref sig .tc := ⟨.hbm, 124, rfl⟩
abbrev main_c_16 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_values : Ref sig .tc := ⟨.hbm, 131, rfl⟩
abbrev main_indices : Ref sig .tc := ⟨.hbm, 132, rfl⟩
abbrev main_cst_17 : Ref sig .tc := ⟨.hbm, 133, rfl⟩
abbrev main_v79 : Ref sig .tc := ⟨.hbm, 134, rfl⟩
abbrev main_v80 : Ref sig .tc := ⟨.hbm, 135, rfl⟩
abbrev main_cst_18 : Ref sig .tc := ⟨.hbm, 136, rfl⟩
abbrev main_call2_v0 : Ref sig .tc := ⟨.hbm, 137, rfl⟩
abbrev main_call2_v1 : Ref sig .tc := ⟨.hbm, 138, rfl⟩
abbrev main_v81 : Ref sig .tc := ⟨.hbm, 139, rfl⟩
abbrev main_cst_19 : Ref sig .tc := ⟨.hbm, 140, rfl⟩
abbrev main_v82 : Ref sig .tc := ⟨.hbm, 141, rfl⟩
abbrev main_c_20 : Ref sig .tc := ⟨.hbm, 142, rfl⟩
abbrev main_v83 : Ref sig .tc := ⟨.hbm, 143, rfl⟩
abbrev main_v84 : Ref sig .tc := ⟨.hbm, 144, rfl⟩
abbrev main_c_21 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩

abbrev nD : Nat := 1
abbrev τ : Topo := Topo.v7x

variable {F : FTy → Type} [FloatOps F]
-- ==== Proof.IdealBody.lean ====
/-
  The body of `KernelIdeal`, run once for each of its two cases: the first grid point, which computes the attended
  activations into the scratch buffer and then one block of the result, and every later point, which computes one
  block of the result from the scratch the first point left. Stated over memref variables, so that one run serves
  every grid point and every staging buffer.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

/-- What the body's `if step == 0` tests at grid point `i`. -/
abbrev IsFirst (i : grid0.Coords) : Prop :=
  Scalar.cmpi .ne (Scalar.extui (Scalar.cmpi .eq (BitVec.ofNat 32 (i 0).val) 0#32) : BitVec 32) 0#32 = 1#1

/-- The attended activations that the first point computes from the fourteen whole operands it is handed. -/
def attOf (X1 : S1024x256.Idx → Elt F .f32)
  (X2 : S256x256.Idx → Elt F .f32)
  (X3 : S1x256.Idx → Elt F .f32)
  (X4 : S256x4.Idx → Elt F .f32)
  (X5 : S16x4.Idx → Elt F .f32)
  (X6 : S16x4.Idx → Elt F .f32)
  (X7 : S1x4.Idx → Elt F .f32)
  (X8 : S256x64.Idx → Elt F .f32)
  (X9 : S16x64.Idx → Elt F .f32)
  (X10 : S16x64.Idx → Elt F .f32)
  (X11 : S1x64.Idx → Elt F .f32)
  (X12 : S4x64.Idx → Elt F .f32)
  (X13 : S64x256.Idx → Elt F .f32)
  (X14 : S4x256.Idx → Elt F .f32) : FVec F S1024x256 .bf16 :=
  k0_pay1 (k0_pay8 (k0_pay7 X1 X2 X3 X4 X5 X6 X7))
    (k0_pay9 (k0_pay3 X1 X2 X3) (k0_pay5 X1 X2 X3) (k0_pay6 X1 X2 X3) (k0_pay7 X1 X2 X3 X4 X5 X6 X7) X8 X9 X10 X11 X12 X13) X14

variable (c : Dev nD) (i : grid0.Coords)
  (arg1 : Memref sig .tc .vmem S1024x256 .f32) (harg1 : arg1.IsWhole)
  (arg2 : Memref sig .tc .vmem S256x256 .f32) (harg2 : arg2.IsWhole)
  (arg3 : Memref sig .tc .vmem S1x256 .f32) (harg3 : arg3.IsWhole)
  (arg4 : Memref sig .tc .vmem S256x4 .f32) (harg4 : arg4.IsWhole)
  (arg5 : Memref sig .tc .vmem S16x4 .f32) (harg5 : arg5.IsWhole)
  (arg6 : Memref sig .tc .vmem S16x4 .f32) (harg6 : arg6.IsWhole)
  (arg7 : Memref sig .tc .vmem S1x4 .f32) (harg7 : arg7.IsWhole)
  (arg8 : Memref sig .tc .vmem S256x64 .f32) (harg8 : arg8.IsWhole)
  (arg9 : Memref sig .tc .vmem S16x64 .f32) (harg9 : arg9.IsWhole)
  (arg10 : Memref sig .tc .vmem S16x64 .f32) (harg10 : arg10.IsWhole)
  (arg11 : Memref sig .tc .vmem S1x64 .f32) (harg11 : arg11.IsWhole)
  (arg12 : Memref sig .tc .vmem S4x64 .f32) (harg12 : arg12.IsWhole)
  (arg13 : Memref sig .tc .vmem S64x256 .f32) (harg13 : arg13.IsWhole)
  (arg14 : Memref sig .tc .vmem S4x256 .f32) (harg14 : arg14.IsWhole)
  (arg15 : Memref sig .tc .vmem S256x5248 .f32) (harg15 : arg15.IsWhole)
  (arg16 : Memref sig .tc .vmem S1024x5248 .f32) (harg16 : arg16.IsWhole)
  (arg17 : Memref sig .tc .vmem S1024x256 .bf16) (harg17 : arg17.IsWhole)

/-- A later point: from the output projection's block at `W`, the scratch at `A` and the result's block at anything,
    the body runs to the result's block holding the product of the two. -/
theorem body_later (hi : ¬ IsFirst i) (A : S1024x256.Idx → Elt F .bf16) (W : S256x5248.Idx → Elt F .f32)
    (d : S1024x5248.Idx → Elt F .f32) (K : PUnit → sProp 𝕄) :
    iprop(owns (c : Thread nD τ) arg15 fullShare W ∗ owns (c : Thread nD τ) arg16 fullShare d ∗ owns (c : Thread nD τ) arg17 fullShare A
        ∗ (iprop(owns (c : Thread nD τ) arg15 fullShare W ∗ owns (c : Thread nD τ) arg16 fullShare (k0_pay2 A W)
            ∗ owns (c : Thread nD τ) arg17 fullShare A) -∗ K ⟨⟩))
      ⊢ wp frame (wpE (defs₀ (F := F)) Variants.none c none) Set.univ (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hi' := hi
  unfold IsFirst at hi'
  simp only [cc0__fused_kernel_eq_skeleton]; unfold cc0__fused_kernel_skel
  unfold owns
  iintro ⟨⟨%f15, %e15, H15⟩, ⟨%f16, -, H16⟩, ⟨%f17, %e17, H17⟩, Hk⟩
  sl_exec
  sl_step
  iapply Hk
  isplitl [H15]
  · iexists _; isplitr; swap; · iexact H15
    ipureintro; exact e15
  isplitl [H16]
  · iexists _; isplitr; swap; · iexact H16
    ipureintro
    rw [View.read_writes_full, View.readAt_full, View.readAt_full, e15, e17]
  iexists _; isplitr; swap; · iexact H17
  ipureintro; exact e17

set_option maxHeartbeats 1600000 in
/-- The first point: from the fourteen whole operands, the output projection's block at `W`, and the scratch and the
    result's block at anything, the body runs to the scratch holding the attended activations and the result's block
    their product with `W`; the operands are as they were. -/
theorem body_first (hi : IsFirst i)
  (X1 : S1024x256.Idx → Elt F .f32)
  (X2 : S256x256.Idx → Elt F .f32)
  (X3 : S1x256.Idx → Elt F .f32)
  (X4 : S256x4.Idx → Elt F .f32)
  (X5 : S16x4.Idx → Elt F .f32)
  (X6 : S16x4.Idx → Elt F .f32)
  (X7 : S1x4.Idx → Elt F .f32)
  (X8 : S256x64.Idx → Elt F .f32)
  (X9 : S16x64.Idx → Elt F .f32)
  (X10 : S16x64.Idx → Elt F .f32)
  (X11 : S1x64.Idx → Elt F .f32)
  (X12 : S4x64.Idx → Elt F .f32)
  (X13 : S64x256.Idx → Elt F .f32)
  (X14 : S4x256.Idx → Elt F .f32)
    (W : S256x5248.Idx → Elt F .f32) (d : S1024x5248.Idx → Elt F .f32) (a : S1024x256.Idx → Elt F .bf16) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14
        ∗ owns (c : Thread nD τ) arg15 fullShare W ∗ owns (c : Thread nD τ) arg16 fullShare d ∗ owns (c : Thread nD τ) arg17 fullShare a
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14
            ∗ owns (c : Thread nD τ) arg15 fullShare W
            ∗ owns (c : Thread nD τ) arg16 fullShare (k0_pay2 (attOf X1 X2 X3 X4 X5 X6 X7 X8 X9 X10 X11 X12 X13 X14) W)
            ∗ owns (c : Thread nD τ) arg17 fullShare (attOf X1 X2 X3 X4 X5 X6 X7 X8 X9 X10 X11 X12 X13 X14)) -∗ K ⟨⟩))
      ⊢ wp frame (wpE (defs₀ (F := F)) Variants.none c none) Set.univ (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hi' := hi
  unfold IsFirst at hi'
  simp only [cc0__fused_kernel_eq_skeleton]; unfold cc0__fused_kernel_skel
  simp only [k0_part1_eq_skeleton, k0_part2_eq_skeleton]; unfold k0_part1_skel k0_part2_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, -, H16⟩, ⟨%f17, -, H17⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H11]
  · iexists _; isplitr; swap; · iexact H11
    ipureintro; exact e11
  isplitl [H12]
  · iexists _; isplitr; swap; · iexact H12
    ipureintro; exact e12
  isplitl [H13]
  · iexists _; isplitr; swap; · iexact H13
    ipureintro; exact e13
  isplitl [H14]
  · iexists _; isplitr; swap; · iexact H14
    ipureintro; exact e14
  isplitl [H15]
  · iexists _; isplitr; swap; · iexact H15
    ipureintro; exact e15
  isplitl [H16]
  · iexists _; isplitr; swap; · iexact H16
    ipureintro
    sl_unfold_words
    dsimp only
    rw [View.read_writes_full, View.readCov_full]
    repeat rw [View.readAt_full]
    rw [e1, e2, e3, e4, e5, e6, e7, e8, e9, e10, e11, e12, e13, e14, e15]
    rfl
  iexists _; isplitr; swap; · iexact H17
  ipureintro
  sl_unfold_words
  dsimp only
  rw [View.read_writes_full]
  repeat rw [View.readAt_full]
  rw [e1, e2, e3, e4, e5, e6, e7, e8, e9, e10, e11, e12, e13, e14]
  rfl

end Cert.KernelIdeal.Hand

end
-- ==== Proof.IdealRun.lean ====
/-
  The run of `KernelIdeal`. Every point leaves in the result's block the product of the attended activations with the block
  of the output projection, whatever the projection's staging buffer holds outside the array: both blocks may overhang
  their arrays, so what the body leaves is held to a relation and not named. The scratch buffer is tracked: at anything
  before the first point, at the attended activations after it.
-/
module

public import proofs.«01_k».proof.Proof.IdealBody
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The proof data -/

/-- The attended activations on core `c`, from the fourteen whole operands as the region finds them. -/
def att (c : Dev nD) : FVec F S1024x256 .bf16 := attOf (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)

/-- What the body carries between grid points: the scratch buffer, at anything before the first point and at the
    attended activations after it, and the generator register. -/
def carried (c : Dev nD) (n : ℕ) : sProp 𝕄 :=
  match n with
  | 0 => iprop((∃ a, owns (c : Thread nD τ) (Memref.whole cc0_scratch0 : Memref sig .tc .vmem S1024x256 .bf16) fullShare a) ∗ (∃ r, prngReg c r))
  | _ + 1 => iprop(owns (c : Thread nD τ) (Memref.whole cc0_scratch0 : Memref sig .tc .vmem S1024x256 .bf16) fullShare (att m c) ∗ (∃ r, prngReg c r))

/-- Before the first point the scratch buffer holds anything. -/
theorem carried_zero (c : Dev nD) : carried m c 0 = iprop((∃ a, owns (c : Thread nD τ) (Memref.whole cc0_scratch0 : Memref sig .tc .vmem S1024x256 .bf16) fullShare a) ∗ (∃ r, prngReg c r)) := rfl
/-- After a point the scratch buffer holds the attended activations. -/
theorem carried_succ (c : Dev nD) (n : ℕ) : carried m c (n + 1) = iprop(owns (c : Thread nD τ) (Memref.whole cc0_scratch0 : Memref sig .tc .vmem S1024x256 .bf16) fullShare (att m c) ∗ (∃ r, prngReg c r)) := rfl

/-- What the body leaves in each window's buffer: an operand's block as it was; the projection's block on the part
    inside the array; the result's block is constrained by `Rl` and not named. -/
def dat (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => iblk m c 12 t
    | 13 => iblk m c 13 t
    | 14 => (cfg0.win 14).fill (cfg0.grid.coords t) (fun _ => Classical.arbitrary _) (iblk m c 14 t)
    | 15 => Pipeline.Dat.unnamed (cfg := cfg0) 15 t
    | ⟨_ + 16, h⟩ => absurd h (Nat.not_lt.2 (Nat.le_add_left _ _))
  Φ t := carried m c t.val
  q _ := fullShare
  owed _ := 0

/-- The window whose contents are held to a relation: the result's. -/
def marked : Fin 16 → Bool := fun | 0 => false | 1 => false | 2 => false | 3 => false | 4 => false | 5 => false | 6 => false | 7 => false | 8 => false | 9 => false | 10 => false | 11 => false | 12 => false | 13 => false | 14 => false | 15 => true | ⟨_ + 16, h⟩ => absurd h (Nat.not_lt.2 (Nat.le_add_left _ _))

/-- The result's block is the product of the attended activations with some contents of the projection's buffer that
    agree with the array inside it. -/
def Rl (c : Dev nD) (w : Fin cfg0.W) (t : Fin cfg0.N) (X : (cfg0.win w).block.Idx → Elt F (cfg0.win w).elt) : Prop :=
  match w, X with
  | 15, X => ∃ d : S256x5248.Idx → Elt F .f32, X = k0_pay2 (att m c) ((cfg0.win 14).fill (cfg0.grid.coords t) d (iblk m c 14 t))
  | _, _ => True

/-- The data read relationally, the result's window held to `Rl`. -/
abbrev rdat (c : Dev nD) : Pipeline.RDat τ (Elt F) Unit ℕ (UR sig nD τ) ℕ cfg0 c := (dat m c).toRRel marked (Rl m c)

/-- A window's array, as the region finds it. -/
theorem A_eq (c : Dev nD) (w : Fin cfg0.W) : (dat m c).A w = V m c (Pipeline.arrRef spec0 w) := by dsimp only [dat]

/-! ## What the body finds -/

/-- At every point operand 0's buffer (x) holds its block. -/
theorem before_0 (c : Dev nD) (t : Fin cfg0.N) (d) : (dat m c).before 0 t d = iblk m c 0 t :=
  before0_0_of m (dat m c) (A_eq m c 0) (fun _ => rfl) t d
/-- At every point operand 1's buffer (W_in) holds its block. -/
theorem before_1 (c : Dev nD) (t : Fin cfg0.N) (d) : (dat m c).before 1 t d = iblk m c 1 t :=
  before0_1_of m (dat m c) (A_eq m c 1) (fun _ => rfl) t d
/-- At every point operand 2's buffer (b_in) holds its block. -/
theorem before_2 (c : Dev nD) (t : Fin cfg0.N) (d) : (dat m c).before 2 t d = iblk m c 2 t :=
  before0_2_of m (dat m c) (A_eq m c 2) (fun _ => rfl) t d
/-- At every point operand 3's buffer (gate_W, projection) holds its block. -/
theorem before_3 (c : Dev nD) (t : Fin cfg0.N) (d) : (dat m c).before 3 t d = iblk m c 3 t :=
  before0_3_of m (dat m c) (A_eq m c 3) (fun _ => rfl) t d
/-- At every point operand 4's buffer (gate_W, cosines) holds its block. -/
theorem before_4 (c : Dev nD) (t : Fin cfg0.N) (d) : (dat m c).before 4 t d = iblk m c 4 t :=
  before0_4_of m (dat m c) (A_eq m c 4) (fun _ => rfl) t d
/-- At every point operand 5's buffer (gate_W, sines) holds its block. -/
theorem before_5 (c : Dev nD) (t : Fin cfg0.N) (d) : (dat m c).before 5 t d = iblk m c 5 t :=
  before0_5_of m (dat m c) (A_eq m c 5) (fun _ => rfl) t d
/-- At every point operand 6's buffer (gate_b) holds its block. -/
theorem before_6 (c : Dev nD) (t : Fin cfg0.N) (d) : (dat m c).before 6 t d = iblk m c 6 t :=
  before0_6_of m (dat m c) (A_eq m c 6) (fun _ => rfl) t d
/-- At every point operand 7's buffer (exp_W1, projection) holds its block. -/
theorem before_7 (c : Dev nD) (t : Fin cfg0.N) (d) : (dat m c).before 7 t d = iblk m c 7 t :=
  before0_7_of m (dat m c) (A_eq m c 7) (fun _ => rfl) t d
/-- At every point operand 8's buffer (exp_W1, cosines) holds its block. -/
theorem before_8 (c : Dev nD) (t : Fin cfg0.N) (d) : (dat m c).before 8 t d = iblk m c 8 t :=
  before0_8_of m (dat m c) (A_eq m c 8) (fun _ => rfl) t d
/-- At every point operand 9's buffer (exp_W1, sines) holds its block. -/
theorem before_9 (c : Dev nD) (t : Fin cfg0.N) (d) : (dat m c).before 9 t d = iblk m c 9 t :=
  before0_9_of m (dat m c) (A_eq m c 9) (fun _ => rfl) t d
/-- At every point operand 10's buffer (exp_b1) holds its block. -/
theorem before_10 (c : Dev nD) (t : Fin cfg0.N) (d) : (dat m c).before 10 t d = iblk m c 10 t :=
  before0_10_of m (dat m c) (A_eq m c 10) (fun _ => rfl) t d
/-- At every point operand 11's buffer (the spreading array) holds its block. -/
theorem before_11 (c : Dev nD) (t : Fin cfg0.N) (d) : (dat m c).before 11 t d = iblk m c 11 t :=
  before0_11_of m (dat m c) (A_eq m c 11) (fun _ => rfl) t d
/-- At every point operand 12's buffer (exp_W2) holds its block. -/
theorem before_12 (c : Dev nD) (t : Fin cfg0.N) (d) : (dat m c).before 12 t d = iblk m c 12 t :=
  before0_12_of m (dat m c) (A_eq m c 12) (fun _ => rfl) t d
/-- At every point operand 13's buffer (exp_b2) holds its block. -/
theorem before_13 (c : Dev nD) (t : Fin cfg0.N) (d) : (dat m c).before 13 t d = iblk m c 13 t :=
  before0_13_of m (dat m c) (A_eq m c 13) (fun _ => rfl) t d
/-- At every point the projection's buffer holds its block on the part inside the array. -/
theorem before_14 (c : Dev nD) (t : Fin cfg0.N) (d) :
    (dat m c).before 14 t d = (cfg0.win 14).fill (cfg0.grid.coords t) d (iblk m c 14 t) :=
  (dat m c).before_fetched 14 t (fetch0_14 t) d

/-! ## The body at a point -/

/-- The operand windows' blocks are the same at every point. -/
theorem isFirst_iff : ∀ t : Fin cfg0.N, IsFirst (grid0.coords t) ↔ t.val = 0 := by decide +kernel

/-- What the body is called with at point `t`. -/
def bodyPre (c : Dev nD) (t : Fin cfg0.N) : sProp 𝕄 :=
  iprop((dat m c).Φ t.castSucc ∗ (dat m c).owesAt () t.castSucc ∗ (∃ d, owns (c : Thread nD τ) (st0_0 t) fullShare ((dat m c).before 0 t d)) ∗ (∃ d, owns (c : Thread nD τ) (st0_1 t) fullShare ((dat m c).before 1 t d)) ∗ (∃ d, owns (c : Thread nD τ) (st0_2 t) fullShare ((dat m c).before 2 t d)) ∗ (∃ d, owns (c : Thread nD τ) (st0_3 t) fullShare ((dat m c).before 3 t d)) ∗ (∃ d, owns (c : Thread nD τ) (st0_4 t) fullShare ((dat m c).before 4 t d)) ∗ (∃ d, owns (c : Thread nD τ) (st0_5 t) fullShare ((dat m c).before 5 t d)) ∗ (∃ d, owns (c : Thread nD τ) (st0_6 t) fullShare ((dat m c).before 6 t d)) ∗ (∃ d, owns (c : Thread nD τ) (st0_7 t) fullShare ((dat m c).before 7 t d)) ∗ (∃ d, owns (c : Thread nD τ) (st0_8 t) fullShare ((dat m c).before 8 t d)) ∗ (∃ d, owns (c : Thread nD τ) (st0_9 t) fullShare ((dat m c).before 9 t d)) ∗ (∃ d, owns (c : Thread nD τ) (st0_10 t) fullShare ((dat m c).before 10 t d)) ∗ (∃ d, owns (c : Thread nD τ) (st0_11 t) fullShare ((dat m c).before 11 t d)) ∗ (∃ d, owns (c : Thread nD τ) (st0_12 t) fullShare ((dat m c).before 12 t d)) ∗ (∃ d, owns (c : Thread nD τ) (st0_13 t) fullShare ((dat m c).before 13 t d)) ∗ (∃ d, owns (c : Thread nD τ) (st0_14 t) fullShare ((dat m c).before 14 t d))
    ∗ (∃ Y, ⌜(rdat m c).Finds 15 t Y⌝ ∗ owns (c : Thread nD τ) (st0_15 t) fullShare Y))

/-- What it returns with. -/
def bodyPost (c : Dev nD) (t : Fin cfg0.N) : sProp 𝕄 :=
  iprop((dat m c).Φ t.succ ∗ (dat m c).owesAt () t.succ ∗ owns (c : Thread nD τ) (st0_0 t) fullShare ((dat m c).after 0 t) ∗ owns (c : Thread nD τ) (st0_1 t) fullShare ((dat m c).after 1 t) ∗ owns (c : Thread nD τ) (st0_2 t) fullShare ((dat m c).after 2 t) ∗ owns (c : Thread nD τ) (st0_3 t) fullShare ((dat m c).after 3 t) ∗ owns (c : Thread nD τ) (st0_4 t) fullShare ((dat m c).after 4 t) ∗ owns (c : Thread nD τ) (st0_5 t) fullShare ((dat m c).after 5 t) ∗ owns (c : Thread nD τ) (st0_6 t) fullShare ((dat m c).after 6 t) ∗ owns (c : Thread nD τ) (st0_7 t) fullShare ((dat m c).after 7 t) ∗ owns (c : Thread nD τ) (st0_8 t) fullShare ((dat m c).after 8 t) ∗ owns (c : Thread nD τ) (st0_9 t) fullShare ((dat m c).after 9 t) ∗ owns (c : Thread nD τ) (st0_10 t) fullShare ((dat m c).after 10 t) ∗ owns (c : Thread nD τ) (st0_11 t) fullShare ((dat m c).after 11 t) ∗ owns (c : Thread nD τ) (st0_12 t) fullShare ((dat m c).after 12 t) ∗ owns (c : Thread nD τ) (st0_13 t) fullShare ((dat m c).after 13 t)
    ∗ (∃ d, owns (c : Thread nD τ) (st0_14 t) fullShare ((cfg0.win 14).fill (cfg0.grid.coords t) d ((cfg0.win 14).cut (cfg0.grid.coords t) ((dat m c).after 14 t))))
    ∗ (∃ X, ⌜Rl m c 15 t X⌝ ∗ owns (c : Thread nD τ) (st0_15 t) fullShare X))

/-- The part inside the array of what the body leaves in the projection's buffer is the block. -/
theorem cut_after_14 (c : Dev nD) (t : Fin cfg0.N) :
    (cfg0.win 14).cut (cfg0.grid.coords t) ((dat m c).after 14 t) = iblk m c 14 t := (cfg0.win 14).cut_fill _ _ _

/-- The projection's buffer as the body found it is as the obligation wants it back: at its block inside the array. -/
theorem give_14 (c : Dev nD) (t : Fin cfg0.N) (d : S256x5248.Idx → Elt F .f32) :
    owns (c : Thread nD τ) (st0_14 t) fullShare ((cfg0.win 14).fill (cfg0.grid.coords t) d (iblk m c 14 t))
      ⊢ iprop(∃ d, owns (c : Thread nD τ) (st0_14 t) fullShare ((cfg0.win 14).fill (cfg0.grid.coords t) d ((cfg0.win 14).cut (cfg0.grid.coords t) ((dat m c).after 14 t))) : sProp 𝕄) := by
  rw [cut_after_14]
  iintro H; iexists d; iexact H

set_option maxHeartbeats 1600000 in
/-- The body at the point, from the two runs of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dat m c).owesAt () t.succ = (dat m c).owesAt () t.castSucc from rfl,
    show (dat m c).Φ t.castSucc = carried m c t.val from rfl, show (dat m c).Φ t.succ = carried m c (t.val + 1) from rfl]
  by_cases ht : t.val = 0
  · obtain rfl : t = t0_0 := Fin.ext ht
    rw [show carried m c t0_0.val = carried m c 0 from rfl, carried_zero, carried_succ]
    iintro ⟨⟨⟨%a, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%Y, -, H15⟩⟩
    iapply (body_first c (grid0.coords t0_0) (st0_0 t0_0) (hstage0_0 ((cfg0.slots t0_0 0).cast nbuf0_0)) (st0_1 t0_0) (hstage0_1 ((cfg0.slots t0_0 1).cast nbuf0_1)) (st0_2 t0_0) (hstage0_2 ((cfg0.slots t0_0 2).cast nbuf0_2)) (st0_3 t0_0) (hstage0_3 ((cfg0.slots t0_0 3).cast nbuf0_3)) (st0_4 t0_0) (hstage0_4 ((cfg0.slots t0_0 4).cast nbuf0_4)) (st0_5 t0_0) (hstage0_5 ((cfg0.slots t0_0 5).cast nbuf0_5)) (st0_6 t0_0) (hstage0_6 ((cfg0.slots t0_0 6).cast nbuf0_6)) (st0_7 t0_0) (hstage0_7 ((cfg0.slots t0_0 7).cast nbuf0_7)) (st0_8 t0_0) (hstage0_8 ((cfg0.slots t0_0 8).cast nbuf0_8)) (st0_9 t0_0) (hstage0_9 ((cfg0.slots t0_0 9).cast nbuf0_9)) (st0_10 t0_0) (hstage0_10 ((cfg0.slots t0_0 10).cast nbuf0_10)) (st0_11 t0_0) (hstage0_11 ((cfg0.slots t0_0 11).cast nbuf0_11)) (st0_12 t0_0) (hstage0_12 ((cfg0.slots t0_0 12).cast nbuf0_12)) (st0_13 t0_0) (hstage0_13 ((cfg0.slots t0_0 13).cast nbuf0_13)) (st0_14 t0_0) (hstage0_14 ((cfg0.slots t0_0 14).cast nbuf0_14)) (st0_15 t0_0) (hstage0_15 ((cfg0.slots t0_0 15).cast nbuf0_15)) (Memref.whole cc0_scratch0) (Memref.isWhole_whole _) ((isFirst_iff t0_0).mpr rfl)
      (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) _ Y a _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS]; · iexact HS
    iintro ⟨H0, H1, H2, H3, H4, H5, H6, H7, H8, H9, H10, H11, H12, H13, H14, H15, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iapply (give_14 m c t0_0 d14); iexact H14
    iexists _; isplitr; swap; · iexact H15
    ipureintro; exact ⟨d14, rfl⟩
  · obtain ⟨n, hn⟩ : ∃ n, t.val = n + 1 := ⟨t.val - 1, by omega⟩
    rw [hn, carried_succ, carried_succ]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%Y, -, H15⟩⟩
    iapply (body_later c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (Memref.whole cc0_scratch0) (Memref.isWhole_whole _) (fun h => ht ((isFirst_iff t).mp h)) (att m c) _ Y _)
    isplitl [H14]; · iexact H14
    isplitl [H15]; · iexact H15
    isplitl [HS]; · iexact HS
    iintro ⟨H14, H15, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iapply (give_14 m c t d14); iexact H14
    iexists _; isplitr; swap; · iexact H15
    ipureintro; exact ⟨d14, rfl⟩

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, the result's window held to `Rl`. -/
theorem body_obligation (c : Dev nD) :
    BodyObligationRel (dat m c) (defs₀ (F := F)) Variants.none () Set.univ marked (Rl m c) := fun t => by
  rw [bigSep_W0, bigSep_W0, defs₀_row]
  exact triple_restated (sound_body m c t) rfl .rfl fun _ => .rfl

/-! ## The launch -/

/-- What the region starts with is what is carried before the first point. -/
theorem carried_in (c : Dev nD) : Pipeline.ΦA spec0 c ⊢ (rdat (F := F) m c).Φ 0 := by
  rw [show (rdat m c).Φ 0 = carried m c 0 from rfl]
  unfold Pipeline.ΦA
  rw [carried_zero, scopedRest0_eq]
  simp only [owns_whole]
  exact .rfl

/-- What is carried after the last point is what the region ends with. -/
theorem carried_out (c : Dev nD) : (rdat (F := F) m c).Φ (Fin.last cfg0.N) ⊢ Pipeline.ΦA spec0 c := by
  rw [show (rdat m c).Φ (Fin.last cfg0.N) = carried m c (6 + 1) from rfl]
  unfold Pipeline.ΦA
  rw [carried_succ, scopedRest0_eq]
  simp only [owns_whole]
  iintro ⟨H, Hg⟩
  isplitl [H]
  · iexists _; iexact H
  iexact Hg

-- the launch theorem's implicit arguments are found by unifying its conclusion with this statement
set_option backward.isDefEq.respectTransparency.types false in
/-- From any memory with zero counters, at any float values: every weakly fair execution of @main terminates, every
    window's array ends at contents the relation allows, every other unscoped buffer is as the region found it, and
    every semaphore counter is at zero. -/
theorem run_main :
    θ_run defs (onTc (τ := τ) (main (F := F))) (s₀ m ρ)
      (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dat m c).share_full fun _ => rfl)
    (howed := fun _ _ => rfl) (V := V m) (hmain := hmain m Variants.none) (hA := A_eq m)
    (hin := carried_in m) (hout := carried_out m)

variable {m}

/-- After the run every argument array is as launched. -/
theorem args_kept {r : PUnit × MemSt nD τ sig (Elt F)} (h : Pipeline.RDat.FramePost cfg0 (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  ⟨(Pipeline.RDat.FramePost.arr_in h c 0 rfl).trans ((A_eq m c 0).trans (V_main_arg0 m c)),
   (Pipeline.RDat.FramePost.arr_in h c 1 rfl).trans ((A_eq m c 1).trans (V_main_arg1 m c)),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   (Pipeline.RDat.FramePost.arr_in h c 13 rfl).trans ((A_eq m c 13).trans (V_main_arg8 m c)),
   (Pipeline.RDat.FramePost.arr_in h c 14 rfl).trans ((A_eq m c 14).trans (V_main_arg9 m c)),
   ((h c).2 main_arg10 (Pipeline.mem_restRefs_of main_arg10 (by decide) (by decide))).trans (V_main_arg10 m c)⟩

/-- The frame: arguments unchanged, counters at zero, at any float values. -/
theorem frame_run (m : (ℓ : Loc nD τ sig) → Buf (Elt F) ℓ) (ρ : Dev nD → PrngReg) :
    θ_run defs (onTc (τ := τ) (main (F := F))) (s₀ m ρ) (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10))
    ∧ r.2.sem = fun _ => 0) :=
  (θ_run defs _ _).mono (fun _ h => ⟨fun c => args_kept h.1 c, h.2⟩) (run_main m ρ)

end Cert.KernelIdeal.Hand

end
-- ==== Proof.Frames.lean ====
module

public import proofs.«01_k».proof.Defs
public import proofs.«01_k».proof.Proof.KernelRun
public import proofs.«01_k».proof.Proof.IdealRun
public import proofs.«01_k».proof.Proof.Gen.ReferenceIdeal
public import proofs.«01_k».proof.Proof.Gen.ReferenceIdeal.Run
public import proofs.«01_k».proof.Proof.Gen.Pre_finite_gate_zero_bias

@[expose] public section

/-!
# The claims about the runs alone, and the ledger

Each program runs to its end, leaves its arguments as it found them and every counter at zero; and the one constant the
ideal pass named is what the ledger says.
-/

noncomputable section

namespace Cert.Hand

open Idealize.ShloMosaic Idealize.SL.Sem

attribute [local instance] Cert.Kernel.Gen.facts Cert.KernelIdeal.Gen.facts Cert.ReferenceIdeal.Gen.facts
  Cert.Pre_finite_gate_zero_bias.Gen.facts

/-- The kernel, over the bits. -/
theorem kernel_frame : Cert.quiescent_Kernel := fun m ρ _ => Cert.Kernel.Hand.frame_run m ρ

/-- The kernel, over the extended reals. -/
theorem kernelIdeal_frame : Cert.quiescent_KernelIdeal := fun m ρ _ => Cert.KernelIdeal.Hand.frame_run m ρ

/-- The reference, over the extended reals: a program of host operations alone, which has no counter at all. -/
theorem referenceIdeal_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- What holds of every run holds of the runs the precondition admits: the kernel … -/
theorem kernelIdeal_frame_pre : Cert.quiescent_KernelIdeal_pre_finite_gate_zero_bias := fun m ρ _ =>
  kernelIdeal_frame m ρ trivial

/-- … and the reference. -/
theorem referenceIdeal_frame_pre : Cert.quiescent_ReferenceIdeal_pre_finite_gate_zero_bias := fun m ρ _ =>
  referenceIdeal_frame m ρ trivial

/-- The named constant stands for `2π/7`, with `2π` read as the nearest binary fraction of 24 bits. -/
theorem named_constant : Cert.preserves_Kernel_KernelIdeal :=
  IdealRules.named_const.statement Cert.KernelIdeal.κ "two_pi_over_7" .f32 0x3F65C8FA#32
    (((13176795 / 14680064 : ℝ)) : EReal) rfl

end Cert.Hand

end
-- ==== Proof.Spec.lean ====
/-
  The mathematics of the network, in extended reals: what both programs compute, row by row, with no shape, no block and no
  padding. Both value proofs end at these functions.
-/
module

public import Idealize.ShloMosaic.Lib.Pointwise

@[expose] public section

noncomputable section

namespace Cert.Hand

open Idealize.ShloMosaic
open scoped BigOperators

/-- `f` is largest at `j`, and at no later place. -/
def Wins (f : Fin 256 → EReal) (j : Fin 256) : Prop := ∀ i, f i ≤ f j ∧ (j < i → f i < f j)

/-- There is such a place. -/
theorem exists_wins (f : Fin 256 → EReal) : ∃ j, Wins f j := by
  classical
  obtain ⟨k, -, hk⟩ := Finset.exists_max_image Finset.univ f Finset.univ_nonempty
  obtain ⟨j, hj, hj'⟩ := Finset.exists_max_image (Finset.univ.filter fun i => f i = f k) id ⟨k, by simp⟩
  have hfj : f j = f k := by simpa using hj
  refine ⟨j, fun i => ⟨hfj ▸ hk i (Finset.mem_univ i), fun hlt => ?_⟩⟩
  refine lt_of_le_of_ne (hfj ▸ hk i (Finset.mem_univ i)) fun he => ?_
  exact absurd (hj' i (by simp [he, hfj])) (not_le.2 hlt)

/-- There is only one. -/
theorem Wins.unique {f : Fin 256 → EReal} {j k : Fin 256} (hj : Wins f j) (hk : Wins f k) : j = k := by
  rcases lt_trichotomy j k with h | h | h
  · exact absurd ((hj k).2 h) (not_lt.2 (hk j).1)
  · exact h
  · exact absurd ((hk j).2 h) (not_lt.2 (hj k).1)

/-- The network's arrays, by their coordinates. -/
structure Net where
  x : Fin 1024 → Fin 256 → EReal
  wIn : Fin 256 → Fin 256 → EReal
  bIn : Fin 256 → EReal
  gW : Fin 276 → Fin 4 → EReal
  gB : Fin 4 → EReal
  w1 : Fin 4 → Fin 276 → Fin 16 → EReal
  b1 : Fin 4 → Fin 16 → EReal
  w2 : Fin 4 → Fin 16 → Fin 256 → EReal
  b2 : Fin 4 → Fin 256 → EReal
  wOut : Fin 256 → Fin 32000 → EReal

namespace Net

variable (N : Net)

/-- The input projection. -/
def proj (r : Fin 1024) (h : Fin 256) : EReal := ∑ k, N.x r k * N.wIn k h + N.bIn h

/-- The mean of a row of the projection. -/
def mean (r : Fin 1024) : EReal := Ideal.div (∑ h, N.proj r h) (Ideal.ofBits .f32 0x43800000#32)

/-- The angle of the harmonic after the `k`-th: `2π(k+1)/7` times the row's mean, `2π` in 24 bits. -/
def angle (r : Fin 1024) (k : ℕ) : EReal :=
  ((13176795 / 14680064 : ℝ) : EReal) * (((k : ℝ) + 1 : ℝ) : EReal) * N.mean r

/-- The features of a row: the projection, ten cosines, ten sines. -/
def feat (r : Fin 1024) (d : Fin 276) : EReal :=
  if h : d.val < 256 then N.proj r ⟨d.val, h⟩
  else if d.val - 256 < 10 then Ideal.cos (N.angle r (d.val - 256))
  else Ideal.sin (N.angle r (d.val - 256 - 10))

/-- The router's logit of an expert. -/
def logit (r : Fin 1024) (e : Fin 4) : EReal := ∑ d, N.feat r d * N.gW d e + N.gB e

/-- The greatest logit of a row. -/
def peak (r : Fin 1024) : EReal := Finset.univ.fold max (Ideal.ofBits .f32 0xFF800000#32) (N.logit r)

/-- The weight of an expert before it is normalised. -/
def weight (r : Fin 1024) (e : Fin 4) : EReal := Ideal.exp (N.logit r e - N.peak r)

/-- The gate of an expert: the softmax of the logits. -/
def gate (r : Fin 1024) (e : Fin 4) : EReal := Ideal.div (N.weight r e) (∑ e', N.weight r e')

/-- The spike of unit `k` of expert `e`: the logistic function of ten times the distance from one. -/
def spike (r : Fin 1024) (e : Fin 4) (k : Fin 16) : EReal :=
  Ideal.logistic (Ideal.ofBits .f32 0x41200000#32 * (∑ d, N.feat r d * N.w1 e d k + N.b1 e k - 1))

/-- The context: the experts' outputs, mixed by the gates. -/
def ctx (r : Fin 1024) (h : Fin 256) : EReal :=
  ∑ e, N.gate r e * (∑ k, N.spike r e k * N.w2 e k h + N.b2 e h)

/-- The magnitudes of the first row of the context. -/
def mag (j : Fin 256) : EReal := FloatOps.absf (F := Ideal) (φ := .f32) (N.ctx 0 j)

open Classical in
/-- The gain of a coordinate: two where the magnitude of the first row is largest (at the last such place), else one. -/
def gain (j : Fin 256) : EReal := if Wins N.mag j then 2 else 1

/-- The network's output. -/
def out (r : Fin 1024) (v : Fin 32000) : EReal := ∑ h, N.ctx r h * N.gain h * N.wOut h v

end Net

/-! ## The constants the two programs spell -/

/-- The word for two. -/
theorem bits_two : Ideal.ofBits .f32 0x40000000#32 = 2 := by
  rw [show (2 : EReal) = ((2 : ℝ) : EReal) by norm_cast]
  simp [Ideal.ofBits, Ideal.ieee, -EReal.coe_mul]; norm_num
/-- The word for seven. -/
theorem bits_seven : Ideal.ofBits .f32 0x40E00000#32 = ((7 : ℝ) : EReal) := by
  simp [Ideal.ofBits, Ideal.ieee, -EReal.coe_mul]; norm_num
/-- The word for ten. -/
theorem bits_ten : Ideal.ofBits .f32 0x41200000#32 = ((10 : ℝ) : EReal) := by
  simp [Ideal.ofBits, Ideal.ieee, -EReal.coe_mul]; norm_num
/-- The word for nineteen. -/
theorem bits_nineteen : Ideal.ofBits .f32 0x41980000#32 = ((19 : ℝ) : EReal) := by
  simp [Ideal.ofBits, Ideal.ieee, -EReal.coe_mul]; norm_num
/-- The word for minus one. -/
theorem bits_neg_one : Ideal.ofBits .f32 0xBF800000#32 = ((-1 : ℝ) : EReal) := by
  simp [Ideal.ofBits, Ideal.ieee, -EReal.coe_mul]; norm_num
/-- The word for 256, the length of a row. -/
theorem bits_mean : Ideal.ofBits .f32 0x43800000#32 = ((256 : ℝ) : EReal) := by
  simp [Ideal.ofBits, Ideal.ieee, -EReal.coe_mul]; norm_num
/-- The word for `2π`, which is `2π` in 24 bits. -/
theorem bits_turn : Ideal.ofBits .f32 0x40C90FDB#32 = ((13176795 / 2097152 : ℝ) : EReal) := by
  simp [Ideal.ofBits, Ideal.ieee, -EReal.coe_mul]; norm_num
/-- The word for the decay, which is 0.7 in 24 bits. -/
theorem bits_decay : Ideal.ofBits .f32 0x3F333333#32 = ((11744051 / 16777216 : ℝ) : EReal) := by
  simp [Ideal.ofBits, Ideal.ieee, -EReal.coe_mul]; norm_num
/-- The word for plus infinity. -/
theorem bits_top : Ideal.ofBits .f32 0x7F800000#32 = ⊤ := by simp [Ideal.ofBits, Ideal.ieee]
/-- The word for minus infinity. -/
theorem bits_bot : Ideal.ofBits .f32 0xFF800000#32 = ⊥ := by simp [Ideal.ofBits, Ideal.ieee]

/-! ## Facts of the extended reals -/

/-- Ten times the distance from one is ten times the number less ten, at the infinities too. -/
theorem ten_mul_sub_one (x : EReal) :
    ((10 : ℝ) : EReal) * (x - 1) = ((10 : ℝ) : EReal) * x - ((10 : ℝ) : EReal) := by
  induction x with
  | bot => simp [EReal.coe_mul_bot_of_pos]
  | top =>
    rw [show (1 : EReal) = ((1 : ℝ) : EReal) by norm_cast, EReal.top_sub_coe, EReal.coe_mul_top_of_pos (by norm_num),
      EReal.top_sub_coe]
  | coe r =>
    rw [show (1 : EReal) = ((1 : ℝ) : EReal) by norm_cast]
    norm_cast
    ring

/-- A finite factor that is not negative goes through a finite sum. -/
theorem mul_sum_of_nonneg {ι : Type} (s : Finset ι) (g : EReal) (h0 : 0 ≤ g) (h1 : g ≠ ⊤) (f : ι → EReal) :
    ∑ i ∈ s, g * f i = g * ∑ i ∈ s, f i := by
  classical
  induction s using Finset.induction_on with
  | empty => simp
  | insert a s ha ih => rw [Finset.sum_insert ha, Finset.sum_insert ha, ih, EReal.left_distrib_of_nonneg_of_ne_top h0 h1]

/-- A sum of real numbers is the sum of their images. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A sum of finite numbers is finite. -/
theorem sum_finite {ι : Type} (s : Finset ι) (f : ι → EReal) (hf : ∀ i, ∃ y : ℝ, f i = (y : EReal)) :
    ∃ y : ℝ, ∑ i ∈ s, f i = (y : EReal) := by
  choose g hg using hf
  exact ⟨∑ i ∈ s, g i, by rw [coe_sum]; exact Finset.sum_congr rfl fun i _ => hg i⟩

/-- The greatest of finitely many numbers, from minus infinity, is above each … -/
theorem le_fold_max {ι : Type} [Fintype ι] (f : ι → EReal) (i : ι) : f i ≤ Finset.univ.fold max ⊥ f := by
  rw [Finset.le_fold_max]
  exact Or.inr ⟨i, Finset.mem_univ i, le_rfl⟩

/-- … and is one of them, when there are any. -/
theorem fold_max_mem {ι : Type} [Fintype ι] [Nonempty ι] (f : ι → EReal) : ∃ i, Finset.univ.fold max ⊥ f = f i := by
  obtain ⟨i, -, hi⟩ := Finset.exists_max_image Finset.univ f Finset.univ_nonempty
  refine ⟨i, le_antisymm ?_ (le_fold_max f i)⟩
  rw [Finset.fold_max_le]
  exact ⟨bot_le, fun j hj => hi j hj⟩

namespace Net

variable (N : Net)

/-- The arrays that decide the gates are finite. -/
structure Finite : Prop where
  x : ∀ r k, ∃ y : ℝ, N.x r k = (y : EReal)
  wIn : ∀ r k, ∃ y : ℝ, N.wIn r k = (y : EReal)
  bIn : ∀ k, ∃ y : ℝ, N.bIn k = (y : EReal)
  gW : ∀ r k, ∃ y : ℝ, N.gW r k = (y : EReal)
  gB : ∀ k, ∃ y : ℝ, N.gB k = (y : EReal)

/-- A product of finite numbers is finite. -/
theorem finite_mul {a b : EReal} (ha : ∃ y : ℝ, a = (y : EReal)) (hb : ∃ y : ℝ, b = (y : EReal)) :
    ∃ y : ℝ, a * b = (y : EReal) := by
  obtain ⟨u, rfl⟩ := ha; obtain ⟨v, rfl⟩ := hb; exact ⟨u * v, (EReal.coe_mul u v).symm⟩
/-- A sum of two finite numbers is finite. -/
theorem finite_add {a b : EReal} (ha : ∃ y : ℝ, a = (y : EReal)) (hb : ∃ y : ℝ, b = (y : EReal)) :
    ∃ y : ℝ, a + b = (y : EReal) := by
  obtain ⟨u, rfl⟩ := ha; obtain ⟨v, rfl⟩ := hb; exact ⟨u + v, (EReal.coe_add u v).symm⟩

variable {N}

/-- The projection is finite. -/
theorem proj_finite (H : N.Finite) (r : Fin 1024) (h : Fin 256) : ∃ y : ℝ, N.proj r h = (y : EReal) :=
  finite_add (sum_finite _ _ fun k => finite_mul (H.x r k) (H.wIn k h)) (H.bIn h)

/-- A row's mean is finite. -/
theorem mean_finite (H : N.Finite) (r : Fin 1024) : ∃ y : ℝ, N.mean r = (y : EReal) := by
  unfold mean
  rw [bits_mean, Ideal.div_coe (by norm_num)]
  exact finite_mul (sum_finite _ _ fun k => proj_finite H r k) ⟨_, rfl⟩

/-- The angles are finite. -/
theorem angle_finite (H : N.Finite) (r : Fin 1024) (k : ℕ) : ∃ y : ℝ, N.angle r k = (y : EReal) :=
  finite_mul (finite_mul ⟨_, rfl⟩ ⟨_, rfl⟩) (mean_finite H r)

/-- The features are finite. -/
theorem feat_finite (H : N.Finite) (r : Fin 1024) (d : Fin 276) : ∃ y : ℝ, N.feat r d = (y : EReal) := by
  unfold feat
  split_ifs
  · exact proj_finite H r _
  · obtain ⟨y, hy⟩ := angle_finite H r (d.val - 256); rw [hy]; exact ⟨_, rfl⟩
  · obtain ⟨y, hy⟩ := angle_finite H r (d.val - 256 - 10); rw [hy]; exact ⟨_, rfl⟩

/-- The logits are finite. -/
theorem logit_finite (H : N.Finite) (r : Fin 1024) (e : Fin 4) : ∃ y : ℝ, N.logit r e = (y : EReal) :=
  finite_add (sum_finite _ _ fun d => finite_mul (feat_finite H r d) (H.gW d e)) (H.gB e)

/-- Where the logits are finite the unnormalised weights are positive real numbers. -/
theorem weight_pos (H : N.Finite) (r : Fin 1024) (e : Fin 4) : ∃ y : ℝ, 0 < y ∧ N.weight r e = (y : EReal) := by
  obtain ⟨i, hi⟩ := fold_max_mem (N.logit r)
  obtain ⟨a, ha⟩ := logit_finite H r e
  obtain ⟨b, hb⟩ := logit_finite H r i
  refine ⟨Real.exp (a - b), Real.exp_pos _, ?_⟩
  rw [weight, peak, bits_bot, hi, ha, hb, ← EReal.coe_sub, Ideal.exp_coe]

/-- The gates are real numbers, none negative. -/
theorem gate_nonneg (H : N.Finite) (r : Fin 1024) (e : Fin 4) : 0 ≤ N.gate r e ∧ N.gate r e ≠ ⊤ := by
  choose y hy hw using weight_pos H r
  have hs : ∑ e', N.weight r e' = ((∑ e', y e' : ℝ) : EReal) := by
    rw [coe_sum]; exact Finset.sum_congr rfl fun i _ => hw i
  have hp : 0 < ∑ e', y e' := Finset.sum_pos (fun i _ => hy i) Finset.univ_nonempty
  rw [gate, hs, hw, Ideal.div_coe hp.ne', ← EReal.coe_mul]
  exact ⟨EReal.coe_nonneg.2 (mul_nonneg (hy e).le (by positivity)), EReal.coe_ne_top _⟩

/-- The context with the gates taken into each expert's own sums, as the kernel groups it. -/
theorem ctx_eq (H : N.Finite) (r : Fin 1024) (h : Fin 256) :
    N.ctx r h = (∑ e, ∑ k, N.spike r e k * N.gate r e * N.w2 e k h) + ∑ e, N.gate r e * N.b2 e h := by
  unfold ctx
  rw [← Finset.sum_add_distrib]
  refine Finset.sum_congr rfl fun e _ => ?_
  obtain ⟨h0, h1⟩ := gate_nonneg H r e
  rw [EReal.left_distrib_of_nonneg_of_ne_top h0 h1, ← mul_sum_of_nonneg _ _ h0 h1]
  congr 1
  refine Finset.sum_congr rfl fun k _ => ?_
  rw [mul_assoc, mul_left_comm]

end Net

end Cert.Hand

end
-- ==== Proof.KernelValue.lean ====
/-
  The kernel's arithmetic at the extended reals, read at an index: what its body computes from whole operands laid out as
  the host prepares them is the network's context times its gains.
-/
module

public import proofs.«01_k».proof.Proof.IdealBody
public import proofs.«01_k».proof.Proof.Spec
public import Idealize.ShloMosaic.Lib.Pointwise

@[expose] public section

set_option maxRecDepth 16384

noncomputable section

namespace Cert.KernelIdeal.Hand

open Cert.KernelIdeal Cert.KernelIdeal.Gen Facts Cert.Hand
open Idealize.ShloMosaic Idealize.ShloMosaic.StableHlo
open scoped BigOperators

/-- The expert of a flat unit. -/
def hi (q : Fin 64) : Fin 4 := ⟨q.val / 16, by omega⟩
/-- The unit of a flat unit, in its expert. -/
def lo (q : Fin 64) : Fin 16 := ⟨q.val % 16, by omega⟩

/-- A sum over the flat units is a sum over the experts of a sum over their units. -/
theorem sum_flat (f : Fin 4 → Fin 16 → EReal) : ∑ q, f (hi q) (lo q) = ∑ e, ∑ k, f e k := by
  rw [← Finset.sum_product', Finset.univ_product_univ]
  refine Fintype.sum_equiv (finProdFinEquiv (m := 4) (n := 16)).symm _ _ fun q => ?_
  rfl

/-- A row of the harmonics' weights, with the six rows of zeros under the ten. -/
def padded (w : Fin 276 → EReal) (o : ℕ) (ho : o + 10 ≤ 276) (k : Fin 16) : EReal :=
  if h : k.val < 10 then w ⟨o + k.val, by omega⟩ else 0

/-- A sum over the features splits into the projection's part, the cosines' and the sines', the last two over sixteen rows
    of which six are zero. -/
theorem sum_feat (N : Net) (r : Fin 1024) (w : Fin 276 → EReal) :
    ∑ d, N.feat r d * w d =
      (∑ h : Fin 256, N.proj r h * w ⟨h.val, by omega⟩) +
        (∑ k : Fin 16, Ideal.cos (N.angle r k.val) * padded w 256 (by omega) k) +
        ∑ k : Fin 16, Ideal.sin (N.angle r k.val) * padded w 266 (by omega) k := by
  have hs : ∀ (g : ℕ → EReal) (o : ℕ) (ho : o + 10 ≤ 276),
      ∑ k : Fin 16, g k.val * padded w o ho k = ∑ k : Fin 10, g k.val * w ⟨o + k.val, by omega⟩ := by
    intro g o ho
    rw [show (∑ k : Fin 16, g k.val * padded w o ho k) = ∑ k : Fin (10 + 6), g k.val * padded w o ho k from rfl, Fin.sum_univ_add]
    have h0 : ∀ k : Fin 6, g (Fin.natAdd 10 k).val * padded w o ho (Fin.natAdd 10 k) = 0 := fun k => by
      rw [padded, dif_neg (by simp), mul_zero]
    rw [Finset.sum_congr rfl fun k _ => h0 k, Finset.sum_const_zero, add_zero]
    refine Finset.sum_congr rfl fun k _ => ?_
    rw [padded, dif_pos (by simp)]
    rfl
  rw [hs (fun k => Ideal.cos (N.angle r k)), hs (fun k => Ideal.sin (N.angle r k))]
  rw [show (∑ d, N.feat r d * w d) = ∑ d : Fin (256 + 10 + 10), N.feat r d * w d from rfl, Fin.sum_univ_add, Fin.sum_univ_add]
  congr 1

/-- The signed maximum of two words reads as the maximum of the numbers. -/
theorem toInt_maxsi (a b : BitVec 32) : (IntOp.maxsi a b).toInt = max a.toInt b.toInt := by
  simp only [IntOp.maxsi, BitVec.slt_eq_decide, decide_eq_true_eq]
  split_ifs with h
  · exact (max_eq_left (by omega)).symm
  · exact (max_eq_right (by omega)).symm

/-- The largest of the places where `f` is largest, as the kernel finds it: a place where `f` is smaller reads minus one. -/
theorem winner_iff (f : Fin 256 → EReal) (h : Fin 256) :
    (BitVec.ofNat 32 h.val = Finset.univ.fold IntOp.maxsi 2147483648#32
      (fun x : Fin 1 × Fin 256 => if Finset.univ.fold max ⊥ (fun y : Fin 1 × Fin 256 => f y.2) ≤ f x.2 then BitVec.ofNat 32 x.2.val
        else 4294967295#32)) ↔ Wins f h := by
  obtain ⟨j, hj⟩ := exists_wins f
  have hm : Finset.univ.fold max ⊥ (fun y : Fin 1 × Fin 256 => f y.2) = f j :=
    le_antisymm ((Finset.fold_max_le _).2 ⟨bot_le, fun y _ => (hj y.2).1⟩) (le_fold_max (fun y : Fin 1 × Fin 256 => f y.2) (0, j))
  have hf : Finset.univ.fold IntOp.maxsi 2147483648#32 (fun x : Fin 1 × Fin 256 => if f j ≤ f x.2 then BitVec.ofNat 32 x.2.val
        else 4294967295#32) = BitVec.ofNat 32 j.val := by
    apply BitVec.eq_of_toInt_eq
    rw [← Finset.fold_hom (op' := max) (m := BitVec.toInt) (hm := toInt_maxsi)]
    have hn : ∀ i : Fin 256, (BitVec.ofNat 32 i.val).toInt = i.val := by decide +kernel
    apply le_antisymm
    · refine (Finset.fold_max_le _).2 ⟨by rw [hn]; exact le_trans (by decide) (Int.natCast_nonneg _), fun x _ => ?_⟩
      split_ifs with hx
      · rw [hn, hn]
        by_contra hc
        exact absurd hx (not_le.2 ((hj x.2).2 (by rw [Fin.lt_def]; omega)))
      · rw [hn]; exact le_trans (by decide) (Int.natCast_nonneg _)
    · refine (Finset.le_fold_max _).2 (Or.inr ⟨(0, j), Finset.mem_univ _, ?_⟩)
      rw [if_pos le_rfl]
  rw [hm, hf]
  constructor
  · intro he
    have : h = j := by
      have := congrArg BitVec.toNat he
      simp only [BitVec.toNat_ofNat] at this
      ext; omega
    exact this ▸ hj
  · intro hh; rw [hh.unique hj]

/-! ## The body's values -/

section

variable (N : Net)
  (X1 : FVec Ideal S1024x256 .f32) (X2 : FVec Ideal S256x256 .f32) (X3 : FVec Ideal S1x256 .f32)
  (X4 : FVec Ideal S256x4 .f32) (X5 X6 : FVec Ideal S16x4 .f32) (X7 : FVec Ideal S1x4 .f32)
  (X8 : FVec Ideal S256x64 .f32) (X9 X10 : FVec Ideal S16x64 .f32) (X11 : FVec Ideal S1x64 .f32)
  (X12 : FVec Ideal S4x64 .f32) (X13 : FVec Ideal S64x256 .f32) (X14 : FVec Ideal S4x256 .f32)

/-- The body's operands hold the network's arrays, laid out as the host prepares them: the features' weights cut in three
    with the harmonics' padded, the experts' units side by side, and the map from a unit to its expert. -/
structure Laid : Prop where
  x : ∀ r k, X1 (ix2 r k) = N.x r k
  wIn : ∀ k h, X2 (ix2 k h) = N.wIn k h
  bIn : ∀ h, X3 (ix2 0 h) = N.bIn h
  gWp : ∀ (d : Fin 256) e, X4 (ix2 d e) = N.gW ⟨d.val, by omega⟩ e
  gWc : ∀ k e, X5 (ix2 k e) = padded (fun d => N.gW d e) 256 (by omega) k
  gWs : ∀ k e, X6 (ix2 k e) = padded (fun d => N.gW d e) 266 (by omega) k
  gB : ∀ e, X7 (ix2 0 e) = N.gB e
  w1p : ∀ (d : Fin 256) q, X8 (ix2 d q) = N.w1 (hi q) ⟨d.val, by omega⟩ (lo q)
  w1c : ∀ k q, X9 (ix2 k q) = padded (fun d => N.w1 (hi q) d (lo q)) 256 (by omega) k
  w1s : ∀ k q, X10 (ix2 k q) = padded (fun d => N.w1 (hi q) d (lo q)) 266 (by omega) k
  b1 : ∀ q, X11 (ix2 0 q) = N.b1 (hi q) (lo q)
  gmap : ∀ e q, X12 (ix2 e q) = if e = hi q then (1 : EReal) else 0
  w2 : ∀ q h, X13 (ix2 q h) = N.w2 (hi q) (lo q) h
  b2 : ∀ e h, X14 (ix2 e h) = N.b2 e h

variable {N X1 X2 X3 X4 X5 X6 X7 X8 X9 X10 X11 X12 X13 X14}
variable (L : Laid N X1 X2 X3 X4 X5 X6 X7 X8 X9 X10 X11 X12 X13 X14)
include L

/-- The projection. -/
theorem pay3_at (r : Fin 1024) (h : Fin 256) : (k0_pay3 (F := Ideal) X1 X2 X3) (ix2 r h) = N.proj r h := by
  pointwise [k0_pay3]
  simp only [L.x, L.wIn, L.bIn, Net.proj]

/-- The angles, one row for each of sixteen harmonics. -/
theorem pay4_at (r : Fin 1024) (k : Fin 16) : (k0_pay4 (F := Ideal) X1 X2 X3) (ix2 k r) = N.angle r k.val := by
  pointwise [k0_pay4]
  simp only [pay3_at L]
  have hk : FloatOps.sitofp (F := Ideal) FTy.f32 (BitVec.ofNat 32 k.val) = ((k.val : ℝ) : EReal) := by
    rw [show FloatOps.sitofp (F := Ideal) FTy.f32 (BitVec.ofNat 32 k.val) = (((BitVec.ofNat 32 k.val).toInt : ℝ) : EReal) from rfl]
    have hn : ∀ i : Fin 16, (BitVec.ofNat 32 i.val).toInt = i.val := by decide +kernel
    rw [hn]; norm_cast
  rw [hk, IdealRules.named_const.ideal_named_scalar _ _ _ _ rfl, Net.angle, Net.mean, EReal.coe_add]
  rfl

/-- Their cosines. -/
theorem pay5_at (r : Fin 1024) (k : Fin 16) : (k0_pay5 (F := Ideal) X1 X2 X3) (ix2 k r) = Ideal.cos (N.angle r k.val) := by
  pointwise [k0_pay5]
  rw [pay4_at L]

/-- Their sines. -/
theorem pay6_at (r : Fin 1024) (k : Fin 16) : (k0_pay6 (F := Ideal) X1 X2 X3) (ix2 k r) = Ideal.sin (N.angle r k.val) := by
  pointwise [k0_pay6]
  rw [pay4_at L]

/-- The logits. -/
theorem pay7_at (r : Fin 1024) (e : Fin 4) : (k0_pay7 (F := Ideal) X1 X2 X3 X4 X5 X6 X7) (ix2 r e) = N.logit r e := by
  pointwise [k0_pay7]
  simp only [pay3_at L, pay5_at L, pay6_at L, L.gWp, L.gWc, L.gWs, L.gB]
  rw [Net.logit, sum_feat N r fun d => N.gW d e]

/-- The gates. -/
theorem pay8_at (r : Fin 1024) (e : Fin 4) :
    (k0_pay8 (F := Ideal) (k0_pay7 X1 X2 X3 X4 X5 X6 X7)) (ix2 r e) = N.gate r e := by
  pointwise [k0_pay8]
  simp only [pay7_at L]
  rfl

/-- The spikes, weighted by their experts' gates and taken through the experts' second layer. -/
theorem pay9_at (r : Fin 1024) (h : Fin 256) :
    (k0_pay9 (F := Ideal) (k0_pay3 X1 X2 X3) (k0_pay5 X1 X2 X3) (k0_pay6 X1 X2 X3) (k0_pay7 X1 X2 X3 X4 X5 X6 X7) X8 X9 X10 X11 X12 X13)
      (ix2 r h) = ∑ e, ∑ k, N.spike r e k * N.gate r e * N.w2 e k h := by
  pointwise [k0_pay9]
  simp only [pay3_at L, pay5_at L, pay6_at L, pay8_at L, L.w1p, L.w1c, L.w1s, L.b1, L.gmap, L.w2]
  rw [← sum_flat fun e k => N.spike r e k * N.gate r e * N.w2 e k h]
  refine Finset.sum_congr rfl fun q _ => ?_
  rw [← sum_feat N r fun d => N.w1 (hi q) d (lo q)]
  simp only [mul_ite, mul_one, mul_zero, Finset.sum_ite_eq', Finset.mem_univ, if_true]
  rw [Net.spike, bits_ten, ten_mul_sub_one]

/-- What the first grid point leaves in the scratch: the context times the gains. -/
theorem attOf_at (H : N.Finite) (r : Fin 1024) (h : Fin 256) :
    (attOf (F := Ideal) X1 X2 X3 X4 X5 X6 X7 X8 X9 X10 X11 X12 X13 X14) (ix2 r h) = N.ctx r h * N.gain h := by
  classical
  have hc : ∀ r h, (∑ e, ∑ k, N.spike r e k * N.gate r e * N.w2 e k h) + ∑ e, N.gate r e * N.b2 e h = N.ctx r h :=
    fun r h => (Net.ctx_eq H r h).symm
  pointwise [attOf, k0_pay1]
  simp only [pay9_at L, pay8_at L, L.b2, hc, bits_bot]
  congr 1
  have hk : ∀ a b : BitVec 32, (BitVec.ofBool (a == b) = 1) = (a = b) := fun a b => by
    by_cases hab : a = b
    · simp [hab]
    · simp [hab, beq_eq_false_iff_ne.2 hab]
  rw [Net.gain, ← bits_two, Scalar.select, IntOp.cmpi]
  simp only [hk]
  refine if_congr ?_ rfl rfl
  rw [← winner_iff N.mag h]
  simp only [Net.mag]
  convert Iff.rfl
  exact if_congr Iff.rfl rfl rfl

end

/-- One block of the result: the scratch times a block of the output weights. -/
theorem pay2_at (p : FVec Ideal S1024x256 .bf16) (w : FVec Ideal S256x5248 .f32) (r : Fin 1024) (v : Fin 5248) :
    (k0_pay2 (F := Ideal) p w) (ix2 r v) = ∑ h, p (ix2 r h) * w (ix2 h v) := by
  pointwise [k0_pay2]

end Cert.KernelIdeal.Hand

end
-- ==== Proof.HostPrep.lean ====
/-
  The operands the host prepares for the kernel, read at an index: each is one of the network's arrays, cut, padded or laid
  out side by side.
-/
module

public import proofs.«01_k».proof.Proof.KernelValue
public import Idealize.ShloMosaic.Lib.StableHlo.ReadAt
public import Idealize.ShloMosaic.Lib.Pipeline.ValueKit

@[expose] public section

set_option maxRecDepth 16384

noncomputable section

namespace Cert.KernelIdeal.Hand

open Cert.KernelIdeal Cert.KernelIdeal.Gen Facts Cert.Hand
open Idealize.ShloMosaic Idealize.ShloMosaic.StableHlo Idealize.ShloMosaic.TcCoe
open scoped BigOperators

variable (m : (ℓ : Loc nD τ sig) → Buf (Elt Ideal) ℓ) (c : Dev nD)

/-- The network whose arrays are the kernel's arguments. -/
def net : Net where
  x r k := (m ((c : Thread nD τ).loc main_arg0) : FVec Ideal S1024x256 .f32) (ix2 r k)
  wIn k h := (m ((c : Thread nD τ).loc main_arg1) : FVec Ideal S256x256 .f32) (ix2 k h)
  bIn h := (m ((c : Thread nD τ).loc main_arg2) : FVec Ideal S256 .f32) (ix1 h)
  gW d e := (m ((c : Thread nD τ).loc main_arg3) : FVec Ideal S276x4 .f32) (ix2 d e)
  gB e := (m ((c : Thread nD τ).loc main_arg4) : FVec Ideal S4 .f32) (ix1 e)
  w1 e d k := (m ((c : Thread nD τ).loc main_arg5) : FVec Ideal S4x276x16 .f32) (ix3 e d k)
  b1 e k := (m ((c : Thread nD τ).loc main_arg6) : FVec Ideal S4x16 .f32) (ix2 e k)
  w2 e k h := (m ((c : Thread nD τ).loc main_arg7) : FVec Ideal S4x16x256 .f32) (ix3 e k h)
  b2 e h := (m ((c : Thread nD τ).loc main_arg8) : FVec Ideal S4x256 .f32) (ix2 e h)
  wOut h v := (m ((c : Thread nD τ).loc main_arg9) : FVec Ideal S256x32000 .f32) (ix2 h v)

/-! ## What the host leaves -/

/-- The gates' weights of the projection's features are the first 256 rows of `gate_W`. -/
theorem gWp_at (d : Fin 256) (e : Fin 4) :
    (V m c main_call0_v0 : FVec Ideal S256x4 .f32) (ix2 d e) = (net m c).gW ⟨d.val, by omega⟩ e := by
  unfold V
  after_reads_at
  rfl

/-- The gates' weights of the cosines are the next ten rows of `gate_W`, then six of zeros. -/
theorem gWc_at (k : Fin 16) (e : Fin 4) :
    (V m c main_call0_v3 : FVec Ideal S16x4 .f32) (ix2 k e) = padded (fun d => (net m c).gW d e) 256 (by omega) k := by
  unfold V padded
  after_reads_at
  split
  · after_reads_at
    rfl
  · after_reads_at

/-- The gates' weights of the sines are the last ten rows of `gate_W`, then six of zeros. -/
theorem gWs_at (k : Fin 16) (e : Fin 4) :
    (V m c main_call0_v6 : FVec Ideal S16x4 .f32) (ix2 k e) = padded (fun d => (net m c).gW d e) 266 (by omega) k := by
  unfold V padded
  after_reads_at
  split
  · after_reads_at
    rfl
  · after_reads_at

/-- The experts' first weights of the projection's features, the experts' units side by side. -/
theorem w1p_at (d : Fin 256) (q : Fin 64) :
    (V m c main_call0_v9 : FVec Ideal S256x64 .f32) (ix2 d q) = (net m c).w1 (hi q) ⟨d.val, by omega⟩ (lo q) := by
  unfold V
  after_reads_at
  rfl

/-- The experts' first weights of the cosines, side by side, then six rows of zeros. -/
theorem w1c_at (k : Fin 16) (q : Fin 64) :
    (V m c main_call0_v12 : FVec Ideal S16x64 .f32) (ix2 k q) = padded (fun d => (net m c).w1 (hi q) d (lo q)) 256 (by omega) k := by
  unfold V padded
  after_reads_at
  split
  · after_reads_at
    rfl
  · after_reads_at

/-- The experts' first weights of the sines, side by side, then six rows of zeros. -/
theorem w1s_at (k : Fin 16) (q : Fin 64) :
    (V m c main_call0_v15 : FVec Ideal S16x64 .f32) (ix2 k q) = padded (fun d => (net m c).w1 (hi q) d (lo q)) 266 (by omega) k := by
  unfold V padded
  after_reads_at
  split
  · after_reads_at
    rfl
  · after_reads_at

/-- The experts' first biases, side by side. -/
theorem b1_at (q : Fin 64) : (V m c main_call0_v16 : FVec Ideal S1x64 .f32) (ix2 0 q) = (net m c).b1 (hi q) (lo q) := by
  unfold V
  after_reads_at
  rfl

/-- The experts' second weights, one expert's rows under another's. -/
theorem w2_at (q : Fin 64) (h : Fin 256) :
    (V m c main_call0_v17 : FVec Ideal S64x256 .f32) (ix2 q h) = (net m c).w2 (hi q) (lo q) h := by
  unfold V
  after_reads_at
  rfl

/-- The array that spreads a gate over its expert's units: one where the unit is the expert's, else zero. -/
theorem gmap_at (e : Fin 4) (q : Fin 64) :
    (V m c main_call0_v25 : FVec Ideal S4x64 .f32) (ix2 e q) = if e = hi q then (1 : EReal) else 0 := by
  unfold V
  after_reads_at
  have hw : ∀ e f : Fin 4, IntOp.cmpi CmpIPredicate.eq (IntOp.addi (BitVec.ofNat 32 e.val) 0#32) (BitVec.ofNat 32 f.val) =
      if e = f then 1#1 else 0#1 := by decide +kernel
  show FloatOps.uitofp FTy.f32 (IntOp.cmpi CmpIPredicate.eq (IntOp.addi (BitVec.ofNat 32 e.val) 0#32) (BitVec.ofNat 32 (hi q).val)) = _
  rw [hw e (hi q)]
  split_ifs
  · show (((1#1).toNat : ℝ) : EReal) = 1
    norm_num
  · show (((0#1).toNat : ℝ) : EReal) = 0
    norm_num

/-- The input bias as a row. -/
theorem bIn_at (h : Fin 256) : (V m c main_call0_v26 : FVec Ideal S1x256 .f32) (ix2 0 h) = (net m c).bIn h := by
  unfold V
  after_reads_at
  rfl

/-- The gates' bias as a row. -/
theorem gB_at (e : Fin 4) : (V m c main_call0_v27 : FVec Ideal S1x4 .f32) (ix2 0 e) = (net m c).gB e := by
  unfold V
  after_reads_at
  rfl

/-! ## What the first point is handed -/

/-- The whole operands' blocks start at the origin. -/
theorem origin :
    win0_0.index t0_0 = ![0, 0] ∧
    win0_1.index t0_0 = ![0, 0] ∧
    win0_2.index t0_0 = ![0, 0] ∧
    win0_3.index t0_0 = ![0, 0] ∧
    win0_4.index t0_0 = ![0, 0] ∧
    win0_5.index t0_0 = ![0, 0] ∧
    win0_6.index t0_0 = ![0, 0] ∧
    win0_7.index t0_0 = ![0, 0] ∧
    win0_8.index t0_0 = ![0, 0] ∧
    win0_9.index t0_0 = ![0, 0] ∧
    win0_10.index t0_0 = ![0, 0] ∧
    win0_11.index t0_0 = ![0, 0] ∧
    win0_12.index t0_0 = ![0, 0] ∧
    win0_13.index t0_0 = ![0, 0] := by
  decide +kernel

/-- The block of operand 0 (x) is the whole array. -/
theorem iblk_0 : iblk m c 0 t0_0 = V m c main_arg0 := by blk_ext! [iblk, origin]
/-- The block of operand 1 (W_in) is the whole array. -/
theorem iblk_1 : iblk m c 1 t0_0 = V m c main_arg1 := by blk_ext! [iblk, origin]
/-- The block of operand 2 (b_in) is the whole array. -/
theorem iblk_2 : iblk m c 2 t0_0 = V m c main_call0_v26 := by blk_ext! [iblk, origin]
/-- The block of operand 3 (gate_W, projection) is the whole array. -/
theorem iblk_3 : iblk m c 3 t0_0 = V m c main_call0_v0 := by blk_ext! [iblk, origin]
/-- The block of operand 4 (gate_W, cosines) is the whole array. -/
theorem iblk_4 : iblk m c 4 t0_0 = V m c main_call0_v3 := by blk_ext! [iblk, origin]
/-- The block of operand 5 (gate_W, sines) is the whole array. -/
theorem iblk_5 : iblk m c 5 t0_0 = V m c main_call0_v6 := by blk_ext! [iblk, origin]
/-- The block of operand 6 (gate_b) is the whole array. -/
theorem iblk_6 : iblk m c 6 t0_0 = V m c main_call0_v27 := by blk_ext! [iblk, origin]
/-- The block of operand 7 (exp_W1, projection) is the whole array. -/
theorem iblk_7 : iblk m c 7 t0_0 = V m c main_call0_v9 := by blk_ext! [iblk, origin]
/-- The block of operand 8 (exp_W1, cosines) is the whole array. -/
theorem iblk_8 : iblk m c 8 t0_0 = V m c main_call0_v12 := by blk_ext! [iblk, origin]
/-- The block of operand 9 (exp_W1, sines) is the whole array. -/
theorem iblk_9 : iblk m c 9 t0_0 = V m c main_call0_v15 := by blk_ext! [iblk, origin]
/-- The block of operand 10 (exp_b1) is the whole array. -/
theorem iblk_10 : iblk m c 10 t0_0 = V m c main_call0_v16 := by blk_ext! [iblk, origin]
/-- The block of operand 11 (the spreading array) is the whole array. -/
theorem iblk_11 : iblk m c 11 t0_0 = V m c main_call0_v25 := by blk_ext! [iblk, origin]
/-- The block of operand 12 (exp_W2) is the whole array. -/
theorem iblk_12 : iblk m c 12 t0_0 = V m c main_call0_v17 := by blk_ext! [iblk, origin]
/-- The block of operand 13 (exp_b2) is the whole array. -/
theorem iblk_13 : iblk m c 13 t0_0 = V m c main_arg8 := by blk_ext! [iblk, origin]

/-- The first point's operands are laid out as the body's values suppose. -/
theorem laid : Laid (net m c) (iblk m c 0 t0_0) (iblk m c 1 t0_0) (iblk m c 2 t0_0) (iblk m c 3 t0_0) (iblk m c 4 t0_0)
    (iblk m c 5 t0_0) (iblk m c 6 t0_0) (iblk m c 7 t0_0) (iblk m c 8 t0_0) (iblk m c 9 t0_0) (iblk m c 10 t0_0)
    (iblk m c 11 t0_0) (iblk m c 12 t0_0) (iblk m c 13 t0_0) where
  x r k := by rw [iblk_0, V_main_arg0]; rfl
  wIn k h := by rw [iblk_1, V_main_arg1]; rfl
  bIn h := by rw [iblk_2]; exact bIn_at m c h
  gWp d e := by rw [iblk_3]; exact gWp_at m c d e
  gWc k e := by rw [iblk_4]; exact gWc_at m c k e
  gWs k e := by rw [iblk_5]; exact gWs_at m c k e
  gB e := by rw [iblk_6]; exact gB_at m c e
  w1p d q := by rw [iblk_7]; exact w1p_at m c d q
  w1c k q := by rw [iblk_8]; exact w1c_at m c k q
  w1s k q := by rw [iblk_9]; exact w1s_at m c k q
  b1 q := by rw [iblk_10]; exact b1_at m c q
  gmap e q := by rw [iblk_11]; exact gmap_at m c e q
  w2 q h := by rw [iblk_12]; exact w2_at m c q h
  b2 e h := by rw [iblk_13, V_main_arg8]; rfl

end Cert.KernelIdeal.Hand

end
-- ==== Proof.ResultArray.lean ====
/-
  The kernel's result array after the run: seven blocks of columns, the last cut at the array's end, each the scratch times a
  block of the output weights; together the network's output.
-/
module

public import proofs.«01_k».proof.Proof.IdealRun
public import proofs.«01_k».proof.Proof.HostPrep
public import Idealize.ShloMosaic.Lib.Pipeline.ArrRel

@[expose] public section

set_option maxRecDepth 16384

noncomputable section

namespace Cert.KernelIdeal.Hand

open Cert.KernelIdeal Cert.KernelIdeal.Gen Facts Cert.Hand
open Idealize.ShloMosaic Idealize.ShloMosaic.TcCoe
open Idealize.SL.Sem
open Idealize.ShloMosaic.Pipeline (Dat)
open scoped BigOperators

variable {m : (ℓ : Loc nD τ sig) → Buf (Elt Ideal) ℓ} (c : Dev nD)

/-- The network's output as an array. -/
def outArr (N : Net) : FVec Ideal S1024x32000 .f32 := fun i => N.out (i 0) (i 1)

/-- Where the blocks lie: all the rows, the columns in order. -/
theorem block_index : ∀ t : Fin cfg0.N, win0_15.index t = ![0, t.val] ∧ win0_14.index t = ![0, t.val] := by
  decide +kernel

/-- A block of the weights and the block of the result under it are cut at the same column. -/
theorem block_cut : ∀ t : Fin cfg0.N, (cfg0.win 14).xsize (cfg0.grid.coords t) 0 = 256 ∧
    (cfg0.win 14).xsize (cfg0.grid.coords t) 1 = (cfg0.win 15).xsize (cfg0.grid.coords t) 1 := by
  decide +kernel

/-- A block of the weights, in the columns that the array has, is the array's. -/
theorem weights_at (t : Fin cfg0.N) (d : S256x5248.Idx → Elt Ideal .f32) (h : Fin 256) (v : Fin 5248)
    (hv : v.val < (cfg0.win 15).xsize (cfg0.grid.coords t) 1) (hc : 5248 * t.val + v.val < 32000) :
    (cfg0.win 14).fill (cfg0.grid.coords t) d (iblk m c 14 t) (ix2 h v) = (net m c).wOut h ⟨5248 * t.val + v.val, hc⟩ := by
  have hm : (cfg0.win 14).moved (cfg0.grid.coords t) (ix2 h v) = true := by
    rw [Pipeline.Window.moved_iff]
    intro a
    match a with
    | ⟨0, _⟩ => exact lt_of_lt_of_eq h.isLt (block_cut t).1.symm
    | ⟨1, _⟩ => exact lt_of_lt_of_eq hv (block_cut t).2.symm
  unfold Pipeline.Window.fill
  rw [dif_pos hm]
  unfold iblk
  show V m c main_arg9 _ = _
  rw [V_main_arg9]
  show (m ((c : Thread nD τ).loc main_arg9) : FVec Ideal S256x32000 .f32) _ = (m ((c : Thread nD τ).loc main_arg9) : FVec Ideal S256x32000 .f32) _
  congr 1
  funext a
  apply Fin.ext
  match a with
  | ⟨0, _⟩ => show win0_14.index t 0 * 256 + 1 * h.val = h.val; rw [(block_index t).2]; show 0 * 256 + 1 * h.val = h.val; omega
  | ⟨1, _⟩ => show win0_14.index t 1 * 5248 + 1 * v.val = 5248 * t.val + v.val; rw [(block_index t).2]; show t.val * 5248 + 1 * v.val = _; omega

/-- A block's row and column, in the block and in the array. -/
theorem block_place (t : Fin cfg0.N) (y : ((cfg0.win 15).xblock (cfg0.grid.coords t)).Idx) :
    ∃ (r : Fin 1024) (v : Fin 5248) (hc : 5248 * t.val + v.val < 32000), v.val < (cfg0.win 15).xsize (cfg0.grid.coords t) 1 ∧
      (cfg0.win 15).xinj (cfg0.grid.coords t) y = (ix2 r v : S1024x5248.Idx) ∧
      ((cfg0.win 15).blk t).view.emb y = (ix2 r ⟨5248 * t.val + v.val, hc⟩ : S1024x32000.Idx) := by
  have hr : (y 0).val < 1024 := lt_of_lt_of_le (y 0).isLt ((cfg0.win 15).xsize_le (cfg0.grid.coords t) 0)
  have hv : (y 1).val < 5248 := lt_of_lt_of_le (y 1).isLt ((cfg0.win 15).xsize_le (cfg0.grid.coords t) 1)
  have h0 : ((((cfg0.win 15).blk t).view.emb y : S1024x32000.Idx) 0).val = (y 0).val := by
    show win0_15.index t 0 * 1024 + 1 * (y 0).val = (y 0).val
    rw [(block_index t).1]; show 0 * 1024 + 1 * (y 0).val = _; omega
  have h1 : ((((cfg0.win 15).blk t).view.emb y : S1024x32000.Idx) 1).val = 5248 * t.val + (y 1).val := by
    show win0_15.index t 1 * 5248 + 1 * (y 1).val = 5248 * t.val + (y 1).val
    rw [(block_index t).1]; show t.val * 5248 + 1 * (y 1).val = _; omega
  have hc : 5248 * t.val + (y 1).val < 32000 := h1 ▸ ((((cfg0.win 15).blk t).view.emb y : S1024x32000.Idx) 1).isLt
  refine ⟨⟨(y 0).val, hr⟩, ⟨(y 1).val, hv⟩, hc, (y 1).isLt, ?_, ?_⟩
  · funext a; apply Fin.ext
    match a with
    | ⟨0, _⟩ => rfl
    | ⟨1, _⟩ => rfl
  · funext a; apply Fin.ext
    match a with
    | ⟨0, _⟩ => exact h0
    | ⟨1, _⟩ => exact h1

/-- What a point leaves in the result's buffer, inside the array, is the network's output there. -/
theorem point_at (H : (net m c).Finite) (t : Fin cfg0.N) (d : S256x5248.Idx → Elt Ideal .f32) (r : Fin 1024) (v : Fin 5248)
    (hv : v.val < (cfg0.win 15).xsize (cfg0.grid.coords t) 1) (hc : 5248 * t.val + v.val < 32000) :
    (k0_pay2 (F := Ideal) (att m c) ((cfg0.win 14).fill (cfg0.grid.coords t) d (iblk m c 14 t))) (ix2 r v) =
      (net m c).out r ⟨5248 * t.val + v.val, hc⟩ := by
  rw [pay2_at, Net.out]
  refine Finset.sum_congr rfl fun k _ => ?_
  have hw := weights_at (m := m) c t d k v hv hc
  have ha : att m c (ix2 r k) = (net m c).ctx r k * (net m c).gain k := attOf_at (laid m c) H r k
  exact congrArg₂ (fun a b : EReal => a * b) ha hw

/-- The result array after the run. -/
theorem result_eq {r : PUnit × MemSt nD τ sig (Elt Ideal)} (h : Pipeline.RDat.FramePost cfg0 (rdat m) (V m) r)
    (H : (net m c).Finite) : r.2.mem ((c.tc : Thread nD τ).loc main_v0) = outArr (net m c) := by
  obtain ⟨after, hL, hA⟩ := Pipeline.RDat.FramePost.exists_exact h c
  refine (hA 15).trans (((rdat m c).withAfter after).arrAt_eq_of_covers 15 (outArr (net m c)) (by decide +kernel) fun t hf y => ?_)
  obtain ⟨d, hd⟩ := Dat.toRRel_leaves (dat m c) rfl (hL 15 t hf)
  obtain ⟨r, v, hc, hv, hx, he⟩ := block_place t y
  rw [he]
  show after 15 t ((cfg0.win 15).xinj (cfg0.grid.coords t) y) = _
  rw [hd, hx]
  exact point_at c H t d r v hv hc

end Cert.KernelIdeal.Hand

end
-- ==== Proof.RefValue.lean ====
/-
  The reference's intermediate arrays, read at an index: the projection, the angles, the features, the logits, the weights and
  the context of the network.
-/
module

public import proofs.«01_k».proof.Proof.Spec
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen Cert.ReferenceIdeal.Value Facts Cert.Hand
open Idealize.ShloMosaic Idealize.ShloMosaic.StableHlo
open scoped BigOperators

variable (V0 : Valuation τ sig (Elt Ideal))

/-- The network whose arrays are the reference's arguments. -/
def net : Net where
  x r k := (V0 (Proc.devRef .tc main_arg0) : FVec Ideal S1024x256 .f32) (ix2 r k)
  wIn k h := (V0 (Proc.devRef .tc main_arg1) : FVec Ideal S256x256 .f32) (ix2 k h)
  bIn h := (V0 (Proc.devRef .tc main_arg2) : FVec Ideal S256 .f32) (ix1 h)
  gW d e := (V0 (Proc.devRef .tc main_arg3) : FVec Ideal S276x4 .f32) (ix2 d e)
  gB e := (V0 (Proc.devRef .tc main_arg4) : FVec Ideal S4 .f32) (ix1 e)
  w1 e d k := (V0 (Proc.devRef .tc main_arg5) : FVec Ideal S4x276x16 .f32) (ix3 e d k)
  b1 e k := (V0 (Proc.devRef .tc main_arg6) : FVec Ideal S4x16 .f32) (ix2 e k)
  w2 e k h := (V0 (Proc.devRef .tc main_arg7) : FVec Ideal S4x16x256 .f32) (ix3 e k h)
  b2 e h := (V0 (Proc.devRef .tc main_arg8) : FVec Ideal S4x256 .f32) (ix2 e h)
  wOut h v := (V0 (Proc.devRef .tc main_arg9) : FVec Ideal S256x32000 .f32) (ix2 h v)

/-- The reference's projection is the network's. -/
theorem proj_at (r : Fin 1024) (h : Fin 256) :
    (res_main_v3 V0 : FVec Ideal S1024x256 .f32) (ix2 r h) = (net V0).proj r h := by
  pointwise [res_main_v3]
  rfl

/-- A harmonic's number, made a float, is that number. -/
theorem ofNat_real (k : Fin 10) :
    FloatOps.sitofp (F := Ideal) .f32 (BitVec.ofNat 32 k.val) = ((k.val : ℝ) : EReal) := by
  rw [show FloatOps.sitofp (F := Ideal) .f32 (BitVec.ofNat 32 k.val)
    = (((BitVec.ofNat 32 k.val).toInt : ℝ) : EReal) from rfl]
  have : (BitVec.ofNat 32 k.val).toInt = (k.val : ℤ) := by revert k; decide
  rw [this]; norm_cast

/-- The reference's phases are the network's angles. -/
theorem angle_at (r : Fin 1024) (k : Fin 10) :
    (res_main_v18 V0 : FVec Ideal S1024x10 .f32) (ix2 r k) = (net V0).angle r k.val := by
  have e : (res_main_v18 V0 : FVec Ideal S1024x10 .f32) (ix2 r k)
      = Ideal.div (Ideal.ofBits .f32 0x40C90FDB#32 * (1 + FloatOps.sitofp (F := Ideal) .f32 (BitVec.ofNat 32 k.val))
          * Ideal.div (@Finset.sum (Fin 256) EReal _ Finset.univ fun x => (res_main_v3 V0 : FVec Ideal S1024x256 .f32) (ix2 r x)) (Ideal.ofBits .f32 0x43800000#32))
        (Ideal.ofBits .f32 0x40E00000#32) := by
    pointwise [res_main_v18]
  have hs : @Finset.sum (Fin 256) EReal _ Finset.univ (fun x => (res_main_v3 V0 : FVec Ideal S1024x256 .f32) (ix2 r x)) = ∑ h, (net V0).proj r h :=
    Finset.sum_congr rfl fun h _ => proj_at V0 r h
  rw [e, hs, ofNat_real, bits_turn, bits_seven, Ideal.div_coe (by norm_num), Net.angle]
  change _ * (net V0).mean r * _ = _
  rw [mul_right_comm]
  congr 1
  rw [show (1 : EReal) = ((1 : ℝ) : EReal) by norm_cast, ← EReal.coe_add, ← EReal.coe_mul, ← EReal.coe_mul,
    ← EReal.coe_mul]
  congr 1
  ring

/-- The reference's concatenated features are the network's. -/
theorem feat_at (r : Fin 1024) (d : Fin 276) :
    (res_main_v22 V0 : FVec Ideal S1024x276 .f32) (ix2 r d) = (net V0).feat r d := by
  have e : (res_main_v22 V0 : FVec Ideal S1024x276 .f32) (ix2 r d)
      = if h : d.val < 256 then (res_main_v3 V0 : FVec Ideal S1024x256 .f32) (ix2 r ⟨d.val, h⟩)
        else if h' : d.val - 256 < 10 then
          Ideal.cos ((res_main_v18 V0 : FVec Ideal S1024x10 .f32) (ix2 r ⟨d.val - 256, h'⟩))
        else Ideal.sin ((res_main_v18 V0 : FVec Ideal S1024x10 .f32) (ix2 r ⟨d.val - 256 - 10, by omega⟩)) := by
    pointwise [res_main_v22]
  rw [e, Net.feat]
  by_cases h : d.val < 256
  · rw [dif_pos h, dif_pos h, proj_at]
  · rw [dif_neg h, dif_neg h]
    by_cases h' : d.val - 256 < 10
    · rw [dif_pos h', if_pos h', angle_at]
    · rw [dif_neg h', if_neg h', angle_at]

/-- The reference's gate logits are the network's. -/
theorem logit_at (r : Fin 1024) (e : Fin 4) :
    (res_main_v26 V0 : FVec Ideal S1024x4 .f32) (ix2 r e) = (net V0).logit r e := by
  unfold Net.logit
  pointwise [res_main_v26]
  exact congrArg (· + _) (Finset.sum_congr rfl fun d _ => congrArg (· * _) (feat_at V0 r d))

/-- The reference's exponentials are the network's weights before they are normalised. -/
theorem weight_at (r : Fin 1024) (e : Fin 4) :
    (res_main_v33 V0 : FVec Ideal S1024x4 .f32) (ix2 r e) = (net V0).weight r e := by
  unfold Net.weight
  pointwise [res_main_v33]
  rw [bits_bot, max_eq_right bot_le, Net.peak, bits_bot]
  refine congrArg Ideal.exp (congrArg₂ (fun a b : EReal => a - b) (logit_at V0 r e) ?_)
  refine Eq.trans ?_ ((reducesTo_S1024x4_S1024_d1.fold_fiber_r2_a1 (ix1 r) (max : EReal → EReal → EReal) ⊥
    (res_main_v26 V0 : FVec Ideal S1024x4 .f32)).trans
    (congrArg (Finset.univ.fold max ⊥) (funext fun k => logit_at V0 r k)))
  rfl

/-- An exponential over its row's sum is the network's gate. -/
theorem gate_at (r : Fin 1024) (e : Fin 4) :
    Ideal.div ((res_main_v33 V0 : FVec Ideal S1024x4 .f32) (ix2 r e))
      (@Finset.sum (Fin 4) EReal _ Finset.univ fun x => (res_main_v33 V0 : FVec Ideal S1024x4 .f32) (ix2 r x)) = (net V0).gate r e := by
  rw [weight_at, Net.gate]
  exact congrArg _ (Finset.sum_congr rfl fun x _ => weight_at V0 r x)

/-- The reference's context is the network's. -/
theorem ctx_at (r : Fin 1024) (h : Fin 256) :
    (res_main_v57 V0 : FVec Ideal S1024x256 .f32) (ix2 r h) = (net V0).ctx r h := by
  unfold Net.ctx Net.spike Ideal.logistic
  pointwise [res_main_v57]
  refine @Finset.sum_congr (Fin 4) EReal _ _ _ _ _ rfl fun e _ => ?_
  refine congrArg₂ (fun a b : EReal => a * b) (gate_at V0 r e) ?_
  refine congrArg (fun a : EReal => a + _) (Finset.sum_congr rfl fun k _ => ?_)
  rw [mul_comm]
  refine congrArg (fun a : EReal => a * _) (congrArg (fun a : EReal => Ideal.div 1 (1 + Ideal.exp (-(_ * (a + _ - 1))))) ?_)
  exact Finset.sum_congr rfl fun d _ => congrArg (fun a : EReal => a * _) (feat_at V0 r d)

/-- The reference's magnitudes of the first row are the network's. -/
theorem mag_at (k : Fin 256) :
    (res_main_v60 V0 : FVec Ideal S256 .f32) (ix1 k) = (net V0).mag k := by
  unfold Net.mag
  pointwise [res_main_v60]
  exact congrArg _ (ctx_at V0 0 k)

end Cert.ReferenceIdeal.Hand

end
-- ==== Proof.SortOrder.lean ====
/-
  A stable sort by a strict order: what stands later is greater, or is equal and came later. And the additive scatter of
  numbers into a vector, where the places are distinct.
-/
module

public import Idealize.ShloMosaic.Lib.SortFacts
public import Idealize.ShloMosaic.Lib.Routing.OpsPair
public import Idealize.ShloMosaic.Lib.Pointwise

@[expose] public section

noncomputable section

namespace Cert.Hand

open Idealize.ShloMosaic Idealize.ShloMosaic.Routing
open scoped BigOperators

section Stable

variable {n : ℕ} {α : Type} [LinearOrder α] (f : Fin n → α)

/-- `a` stands before `b`: it is smaller, or equal and earlier. -/
def Before (a b : Fin n) : Prop := f a < f b ∨ (f a = f b ∧ a < b)

/-- Putting an element in front of a list whose elements all come later keeps the order. -/
theorem insert_ordered (R : Fin n → Fin n → Bool) (hR : ∀ a b, R a b = true ↔ f a < f b) (a : Fin n) :
    ∀ l : List (Fin n), (∀ b ∈ l, a < b) → l.Pairwise (Before f) → (insertBefore R a l).Pairwise (Before f)
  | [], _, _ => List.pairwise_singleton _ _
  | b :: l, ha, hl => by
    rw [List.pairwise_cons] at hl
    unfold insertBefore
    split
    · next h =>
      rw [List.pairwise_cons]
      refine ⟨fun c hc => ?_, insert_ordered R hR a l (fun c hc => ha c (List.mem_cons_of_mem _ hc)) hl.2⟩
      rcases List.mem_cons.1 ((perm_insertBefore R a l).mem_iff.1 hc) with rfl | hc
      · exact Or.inl ((hR _ _).1 h)
      · exact hl.1 c hc
    · next h =>
      have hab : f a ≤ f b := not_lt.1 fun hlt => h ((hR _ _).2 hlt)
      rw [List.pairwise_cons]
      refine ⟨fun c hc => ?_, List.pairwise_cons.2 hl⟩
      have hac : f a ≤ f c := by
        rcases List.mem_cons.1 hc with rfl | hc
        · exact hab
        · rcases hl.1 c hc with h | h
          · exact hab.trans h.le
          · exact hab.trans h.1.le
      rcases hac.lt_or_eq with h | h
      · exact Or.inl h
      · exact Or.inr ⟨h, ha c hc⟩

/-- Sorting a list that stands in order of place gives one in order of value, equals in order of place. -/
theorem sort_ordered (R : Fin n → Fin n → Bool) (hR : ∀ a b, R a b = true ↔ f a < f b) :
    ∀ l : List (Fin n), l.Pairwise (· < ·) → (stableSort R l).Pairwise (Before f)
  | [], _ => List.Pairwise.nil
  | a :: l, hl => by
    rw [List.pairwise_cons] at hl
    unfold stableSort
    exact insert_ordered f R hR a _ (fun b hb => hl.1 b ((perm_stableSort R l).mem_iff.1 hb)) (sort_ordered R hR l hl.2)

/-- The sorting permutation of a stable sort by value: of two of its entries the later is greater, or is equal and came
    later. -/
theorem sorted_before (R : Fin n → Fin n → Bool) (hR : ∀ a b, R a b = true ↔ f a < f b) {i j : Fin n} (hij : i < j) :
    Before f (sortedFrom R i) (sortedFrom R j) :=
  List.pairwise_iff_get.1 (sort_ordered f R hR (List.finRange n) (List.pairwise_lt_finRange n)) _ _ (Fin.lt_def.2 hij)

end Stable

/-- Where a scatter into a vector of `N` from `k` single numbers puts the `j`-th: at the number its index row holds. -/
theorem scatter_place {N k : ℕ} (d : ScatterDims (shape1 N) (shape2 k 1) (shape1 k))
    (hi : d.insertedWindowDims = [0]) (hs : d.scatterDimsToOperandDims = [0])
    (hv : d.indexVectorDim = 1) (idx : IVec (shape2 k 1) 32) (j : Fin k) (v : Fin N) :
    d.resultIdx? (ix1 j) idx = some (ix1 v) ↔ (idx (ix2 j 0)).toInt = (v.val : ℤ) := by
  have hin : (0 : Fin 1) ∈ d.scatterDimsToOperandDims := by rw [hs]; exact List.mem_singleton_self _
  have hnone : d.window (ix1 j) 0 = 0 :=
    dif_neg fun h => (of_decide_eq_true (List.mem_filter.1 h).2) (by rw [hi]; exact List.mem_singleton_self _)
  have hrow (c : Fin d.scatterDimsToOperandDims.length) : d.siIdx (ix1 j) c = ix2 j (0 : Fin 1) := by
    have hc : c.val = 0 := by have := c.isLt; have h1 : d.scatterDimsToOperandDims.length = 1 := by rw [hs]; rfl
                              omega
    funext b
    match b with
    | ⟨0, _⟩ =>
      have hall : ∀ q : Fin 1, ((ix1 j : (shape1 k).Idx) q).val = j.val := fun q => by rw [Subsingleton.elim q 0]; rfl
      refine Fin.ext ?_
      rw [ScatterDims.siIdx, dif_neg (by rw [hv]; exact Nat.zero_ne_one)]
      exact hall _
    | ⟨1, _⟩ =>
      refine Fin.ext ?_
      rw [ScatterDims.siIdx, dif_pos hv.symm]
      exact hc
  have hgo : d.start (ix1 j) idx 0 = (idx (ix2 j 0)).toInt := by
    rw [ScatterDims.start, dif_pos hin, hrow]
  rw [resultIdx?_eq_some]
  constructor
  · intro h
    have := h 0
    rw [hgo, hnone] at this
    simpa using this
  · intro h a
    rw [Subsingleton.elim a 0, hgo, hnone, h]
    exact add_zero _

/-- An additive scatter into a vector, at a place: what stood there and every number whose index row holds the place. -/
theorem scatter_sum {N k : ℕ} (d : ScatterDims (shape1 N) (shape2 k 1) (shape1 k))
    (hi : d.insertedWindowDims = [0]) (hs : d.scatterDimsToOperandDims = [0])
    (hv : d.indexVectorDim = 1) (x : FVec Ideal (shape1 N) .f32) (idx : IVec (shape2 k 1) 32)
    (u : FVec Ideal (shape1 k) .f32) (v : Fin N) :
    (Host.scatterAdd d x idx u : FVec Ideal (shape1 N) .f32) (ix1 v)
      = (x (ix1 v) : EReal) + ∑ j : Fin k, if (idx (ix2 j 0)).toInt = (v.val : ℤ) then (u (ix1 j) : EReal) else 0 := by
  classical
  change (x (ix1 v) : EReal) + ∑ j ∈ Finset.univ.filter (fun j => d.resultIdx? j idx = some (ix1 v)), (u j : EReal) = _
  refine congrArg (fun a : EReal => x (ix1 v) + a) ?_
  rw [Finset.sum_filter]
  refine Fintype.sum_equiv ⟨fun i => i 0, fun j => ix1 j, fun i => ?_, fun j => rfl⟩ _ _ fun i => ?_
  · funext a; rw [Subsingleton.elim a 0]; rfl
  · obtain ⟨j, rfl⟩ : ∃ j : Fin k, i = ix1 j := ⟨i 0, by funext a; rw [Subsingleton.elim a 0]; rfl⟩
    exact if_congr (scatter_place d hi hs hv idx j v) rfl rfl

/-- A place along the one axis of a vector. -/
theorem along_vector {n : ℕ} (k a : Fin n) (h : 0 < 1) : ((ix1 k : (shape1 n).Idx).along ⟨0, h⟩ a) = ix1 a := by
  funext b
  rw [Subsingleton.elim b ⟨0, h⟩]
  exact Function.update_self _ _ _

section Sorted

variable {n : ℕ} {α β : Type} (cmp : α × β → α × β → BitVec 1) (x : (shape1 n).Idx → α) (y : (shape1 n).Idx → β)

/-- The permutation by which a stable sort of two vectors by `cmp` rearranges them. -/
def rearranged : Fin n → Fin n :=
  sortedFrom fun a b => cmp (x (ix1 a), y (ix1 a)) (x (ix1 b), y (ix1 b)) == 1#1

/-- Both vectors, sorted together, are read through the one permutation. -/
theorem sorted_pair (k : Fin n) :
    (Host.sort2 (shape1 n) 0 cmp x y).1 (ix1 k) = x (ix1 (rearranged cmp x y k))
      ∧ (Host.sort2 (shape1 n) 0 cmp x y).2 (ix1 k) = y (ix1 (rearranged cmp x y k)) := by
  have h : 0 < (shape1 n).rank := Nat.one_pos
  have e : (fun a b : Fin n => cmp (x ((ix1 k : (shape1 n).Idx).along ⟨0, h⟩ a), y ((ix1 k : (shape1 n).Idx).along ⟨0, h⟩ a))
        (x ((ix1 k : (shape1 n).Idx).along ⟨0, h⟩ b), y ((ix1 k : (shape1 n).Idx).along ⟨0, h⟩ b)) == 1#1)
      = fun a b => cmp (x (ix1 a), y (ix1 a)) (x (ix1 b), y (ix1 b)) == 1#1 :=
    funext fun a => funext fun b => by rw [along_vector k a h, along_vector k b h]
  have e' : (ix1 k : (shape1 n).Idx).along ⟨0, h⟩ (sortedFrom (fun a b : Fin n =>
        cmp (x ((ix1 k : (shape1 n).Idx).along ⟨0, h⟩ a), y ((ix1 k : (shape1 n).Idx).along ⟨0, h⟩ a))
        (x ((ix1 k : (shape1 n).Idx).along ⟨0, h⟩ b), y ((ix1 k : (shape1 n).Idx).along ⟨0, h⟩ b)) == 1#1) k)
      = ix1 (rearranged cmp x y k) :=
    (along_vector k _ h).trans (congrArg (fun R : Fin n → Fin n → Bool => ix1 (sortedFrom R k)) e)
  unfold Host.sort2
  rw [dif_pos h]
  exact ⟨congrArg x e', congrArg y e'⟩

/-- Where `cmp` is the order of the values of `f`, the permutation puts them in order, equals in order of place. -/
theorem rearranged_before {γ : Type} [LinearOrder γ] (f : Fin n → γ)
    (hR : ∀ a b, cmp (x (ix1 a), y (ix1 a)) (x (ix1 b), y (ix1 b)) = 1#1 ↔ f a < f b) {i j : Fin n} (h : i < j) :
    Before f (rearranged cmp x y i) (rearranged cmp x y j) :=
  sorted_before f _ (fun a b => beq_iff_eq.trans (hR a b)) h

/-- The permutation takes no place twice. -/
theorem rearranged_injective : Function.Injective (rearranged cmp x y) := sortedFrom_injective _
/-- The permutation takes every place. -/
theorem rearranged_surjective : Function.Surjective (rearranged cmp x y) := sortedFrom_surjective _

end Sorted

end Cert.Hand

end
-- ==== Proof.RefGain.lean ====
/-
  The reference's gains: the argsort of the magnitudes, the decaying weights scattered over the vocabulary, the five greatest,
  and the boost of those that reach the threshold come to one factor of two, at the last place of the greatest magnitude.
-/
module

public import proofs.«01_k».proof.Proof.RefValue
public import proofs.«01_k».proof.Proof.SortOrder

@[expose] public section

set_option maxRecDepth 16384

noncomputable section

namespace Cert.ReferenceIdeal.Hand

open Cert.ReferenceIdeal Cert.ReferenceIdeal.Gen Cert.ReferenceIdeal.Value Facts Cert.Hand
open Idealize.ShloMosaic Idealize.ShloMosaic.StableHlo
open scoped BigOperators

/-! ## The argsort -/

/-- The comparator of the argsort is the order of the numbers: no extended real differs from itself, and zero has one sign. -/
theorem comparator_iff (l r : EReal × BitVec 32) :
    comparator_f32_i32_d0 (F := Ideal) l r = 1#1 ↔ l.1 < r.1 := by
  have hz (a : EReal) : Scalar.select (Ideal.cmp .oeq a (Ideal.ofBits .f32 0#32)) (Ideal.ofBits .f32 0#32) a = a := by
    simp only [Scalar.select, Ideal.cmp]
    by_cases h : a = Ideal.ofBits .f32 0#32
    · rw [← h]; exact ite_self a
    · have hc : BitVec.ofBool (decide (a = Ideal.ofBits .f32 0#32)) = 0#1 := by rw [decide_eq_false h]; rfl
      exact if_neg (by change BitVec.ofBool (decide (a = Ideal.ofBits .f32 0#32)) ≠ 1#1; rw [hc]; decide)
  have hn (a b : EReal) : Scalar.select (Ideal.cmp .une a a) b a = a := by simp [Scalar.select, Ideal.cmp]
  change Ideal.cmp .olt
        (Scalar.select (Ideal.cmp .une l.1 l.1) (Ideal.ofBits .f32 2143289344#32)
          (Scalar.select (Ideal.cmp .oeq l.1 (Ideal.ofBits .f32 0#32)) (Ideal.ofBits .f32 0#32) l.1))
        (Scalar.select (Ideal.cmp .une r.1 r.1) (Ideal.ofBits .f32 2143289344#32)
          (Scalar.select (Ideal.cmp .oeq r.1 (Ideal.ofBits .f32 0#32)) (Ideal.ofBits .f32 0#32) r.1)) = 1#1 ↔ _
  rw [hz, hz, hn, hn]
  by_cases h : l.1 < r.1 <;> simp [Ideal.cmp, h]

variable (V0 : Valuation τ sig (Elt Ideal))

/-- The argsort's permutation: the place of the `k`-th smallest magnitude. -/
def rank : Fin 256 → Fin 256 :=
  rearranged (n := 256) (comparator_f32_i32_d0 (F := Ideal)) (res_main_v60 V0 : FVec Ideal S256 .f32)
    (res_main_call0_v0 V0 : IVec S256 32)

/-- No place comes twice in the argsort. -/
theorem rank_injective : Function.Injective (rank V0) := rearranged_injective _ _ _
/-- Every place comes in the argsort. -/
theorem rank_surjective : Function.Surjective (rank V0) := rearranged_surjective _ _ _

/-- The argsort lists the places by magnitude, equals in order of place. -/
theorem rank_before {i j : Fin 256} (h : i < j) : Before (net V0).mag (rank V0 i) (rank V0 j) := by
  refine rearranged_before (n := 256) _ _ _ (net V0).mag (fun a b => ?_) h
  rw [comparator_iff]
  exact iff_of_eq (congrArg₂ (fun u v : EReal => u < v) (mag_at V0 a) (mag_at V0 b))

/-- The numbers sorted along with the magnitudes are the places. -/
theorem iota_at (p : Fin 256) : (res_main_call0_v0 V0 : IVec S256 32) (ix1 p) = BitVec.ofNat 32 p.val := by
  pointwise [res_main_call0_v0]

/-- The argsort's entry is the place's number. -/
theorem argsort_at (k : Fin 256) :
    (Host.sort2 S256 0 (comparator_f32_i32_d0 (F := Ideal)) (res_main_v60 V0 : FVec Ideal S256 .f32)
      (res_main_call0_v0 V0 : IVec S256 32)).2 (ix1 k) = BitVec.ofNat 32 (rank V0 k).val :=
  (sorted_pair (n := 256) _ _ _ k).2.trans (iota_at V0 (rank V0 k))

/-- The place of the greatest magnitude. -/
def star : Fin 256 := rank V0 255

/-- The place of the greatest magnitude is the last of the argsort. -/
theorem star_eq : star V0 = rank V0 255 := rfl

attribute [local irreducible] rank star

/-- The last entry of the argsort is where the magnitudes are largest, and the last such place. -/
theorem star_wins : Wins (net V0).mag (star V0) := by
  rw [star_eq]
  intro i
  obtain ⟨k, rfl⟩ := rank_surjective V0 i
  by_cases hk : k = 255
  · rw [hk]; exact ⟨le_rfl, fun h => absurd h (lt_irrefl _)⟩
  · have hlt : k < 255 := by
      have := k.isLt; rw [Fin.lt_def]; have h2 : k.val ≠ 255 := fun h => hk (Fin.ext h); change k.val < 255; omega
    rcases rank_before V0 hlt with h | ⟨h, h'⟩
    · exact ⟨le_of_lt h, fun _ => h⟩
    · exact ⟨le_of_eq h, fun hs => absurd hs (not_lt.2 (le_of_lt h'))⟩

/-! ## The decaying weights, scattered over the vocabulary -/

/-- Taking the remainder by the vocabulary's size and mending a negative one changes no number below 256. -/
theorem wrap_small (p : Fin 256) (n : BitVec 32) (hn : n = 32000#32) :
    IntOp.remsi ArithUnit.host (BitVec.ofNat 32 p.val)
        (Scalar.select (IntOp.cmpi .eq n 0#32) (1#32) n) = BitVec.ofNat 32 p.val
      ∧ Scalar.select
      (IntOp.andi
        (IntOp.cmpi .ne (IntOp.cmpi .slt (BitVec.ofNat 32 p.val) 0#32)
          (IntOp.cmpi .slt (Scalar.select (IntOp.cmpi .eq n 0#32) (1#32) n) 0#32))
        (IntOp.cmpi .ne (BitVec.ofNat 32 p.val) 0#32))
      (IntOp.addi (BitVec.ofNat 32 p.val) (Scalar.select (IntOp.cmpi .eq n 0#32) (1#32) n))
      (BitVec.ofNat 32 p.val) = BitVec.ofNat 32 p.val := by
  subst hn
  revert p
  decide

/-- The entry of the argsort that is the `j`-th of the last twenty. -/
def late (j : Fin 20) : Fin 256 := ⟨236 + j.val, by omega⟩

/-- The last of the last twenty is the last of all. -/
theorem late_last : late 19 = 255 := by decide
/-- The last twenty are twenty different entries. -/
theorem late_injective : Function.Injective late := fun i j h => by
  have := congrArg Fin.val h
  exact Fin.ext (Nat.add_left_cancel this)

/-- The remainder by the vocabulary's size of one of the last twenty is the place itself. -/
theorem place_at (i : Fin 20) :
    (res_main_call1_v4 V0 : IVec S20 32) (ix1 i) = BitVec.ofNat 32 (rank V0 (late i)).val := by
  pointwise [res_main_call1_v4, res_main_call1_v2, res_main_call1_v0]
  rw [show (id (constantI S_ 32 32000#32) : IVec S_ 32) ix0 = 32000#32 from rfl]
  exact (congrArg (fun a => IntOp.remsi ArithUnit.host a (Scalar.select (IntOp.cmpi .eq 32000#32 0#32) 1#32 32000#32))
    (argsort_at V0 (late i))).trans (wrap_small _ _ rfl).1

/-- The token index is the place itself. -/
theorem wrapped_at (i : Fin 20) :
    (res_main_v63 V0 : IVec S20 32) (ix1 i) = BitVec.ofNat 32 (rank V0 (late i)).val := by
  pointwise [res_main_v63, res_main_call1_v2, res_main_call1_v0]
  rw [place_at]
  exact (wrap_small (rank V0 (late i)) _ rfl).2

/-- The weight of the `j`-th of the twenty greatest magnitudes. -/
def decay (j : Fin 20) : EReal := ((Real.rpow (11744051 / 16777216) (19 - (j.val : ℝ)) : ℝ) : EReal)

/-- The weight of the greatest magnitude is one. -/
theorem decay_last : decay 19 = 1 := by
  unfold decay
  have : (19 : ℝ) - ((19 : Fin 20).val : ℝ) = 0 := by norm_num
  rw [this]
  exact congrArg _ (Real.rpow_zero _)

/-- The weights of the others are less than one. -/
theorem decay_lt {j : Fin 20} (h : j ≠ 19) : decay j < 1 := by
  have hj : j.val < 19 := by have := j.isLt; have h2 : j.val ≠ 19 := fun e => h (Fin.ext e); omega
  have hj' : (j.val : ℝ) < 19 := by exact_mod_cast hj
  unfold decay
  have hr : Real.rpow (11744051 / 16777216) (19 - (j.val : ℝ)) < 1 :=
    Real.rpow_lt_one (by norm_num) (by norm_num) (sub_pos.2 hj')
  rw [show (1 : EReal) = ((1 : ℝ) : EReal) by norm_cast]
  exact EReal.coe_lt_coe_iff.2 hr

/-- What the vocabulary's vector holds after the weights are scattered. -/
def pot (v : Fin 32000) : EReal := (res_main_v78 V0 : FVec Ideal S32000 .f32) (ix1 v)

/-- The number of a place of the vocabulary is not negative, so mending negative indices leaves it. -/
theorem wrap_word (p : ℕ) (hp : p < 32000) (a : BitVec 32) :
    (Scalar.select (IntOp.cmpi .slt (BitVec.ofNat 32 p) 0#32) a (BitVec.ofNat 32 p)).toInt = (p : ℤ) := by
  rw [Routing.wrap_of_lt _ _ (by rw [BitVec.toNat_ofNat]; omega), Predicate.toInt_ofNat_small _ (by omega)]

/-- A place holds the weights of those of the twenty that are there. -/
theorem pot_eq (v : Fin 32000) :
    pot V0 v = ∑ j : Fin 20, if (rank V0 (late j)).val = v.val then decay j else 0 := by
  unfold pot res_main_v78
  refine (scatter_sum (N := 32000) (k := 20) scatter_S32000_S20x1_S20_n_0_0_1 rfl rfl rfl _ _ _ v).trans ?_
  have h0 : (broadcastInDim S32000 ![] bcast_S_S32000 (constant (F := Ideal) S_ .f32 0x00000000#32) : FVec Ideal S32000 .f32)
      (ix1 v) = (0 : EReal) := by
    pointwise []
  refine (congrArg (fun a : EReal => a + _) h0).trans ((zero_add _).trans ?_)
  refine Finset.sum_congr rfl fun j _ => ?_
  refine if_congr ?_ ?_ rfl
  · pointwise []
    rw [wrapped_at, wrap_word _ (by omega)]
    exact Int.natCast_inj
  · pointwise []
    rw [bits_decay, bits_nineteen, bits_neg_one,
      show FloatOps.sitofp (F := Ideal) .f32 (BitVec.ofNat 32 j.val)
        = (((BitVec.ofNat 32 j.val).toInt : ℝ) : EReal) from rfl,
      show (BitVec.ofNat 32 j.val).toInt = (j.val : ℤ) by revert j; decide, ← EReal.coe_mul, ← EReal.coe_add, decay]
    refine congrArg (fun y : ℝ => ((Real.rpow (11744051 / 16777216) y : ℝ) : EReal)) ?_
    push_cast
    ring

/-- The place of the greatest magnitude holds one … -/
theorem pot_star {v : Fin 32000} (h : v.val = (star V0).val) : pot V0 v = 1 := by
  have h19 : (rank V0 (late 19)).val = v.val :=
    (congrArg (fun k => (rank V0 k).val) late_last).trans ((congrArg Fin.val (star_eq V0)).symm.trans h.symm)
  rw [pot_eq, Finset.sum_eq_single (19 : Fin 20)]
  · exact (if_pos h19).trans decay_last
  · intro j _ hj
    exact if_neg fun e => hj (late_injective (rank_injective V0 (Fin.ext (e.trans h19.symm))))
  · intro h; exact absurd (Finset.mem_univ _) h

/-- … and every other place less than one. -/
theorem pot_lt {v : Fin 32000} (h : v.val ≠ (star V0).val) : pot V0 v < 1 := by
  rw [pot_eq]
  by_cases he : ∃ j : Fin 20, (rank V0 (late j)).val = v.val
  · obtain ⟨j, hj⟩ := he
    rw [Finset.sum_eq_single j]
    · rw [if_pos hj]
      refine decay_lt fun e => h ?_
      rw [← hj, e, late_last, star_eq]
    · intro i _ hi
      exact if_neg fun e => hi (late_injective (rank_injective V0 (Fin.ext (e.trans hj.symm))))
    · intro h; exact absurd (Finset.mem_univ _) h
  · rw [Finset.sum_eq_zero fun j _ => if_neg fun e => he ⟨j, e⟩]
    exact zero_lt_one

/-! ## The five greatest, and the boost -/

/-- The number of a place of the vocabulary. -/
def number : IVec S32000 32 := fun i => if hd : 0 < S32000.rank then iotaInDim S32000 32 ⟨0, hd⟩ i else 0#32

/-- The permutation that puts the vocabulary's vector in descending order. -/
def top : Fin 32000 → Fin 32000 :=
  rearranged (n := 32000) (fun l r : EReal × BitVec 32 => FloatOps.cmpfTotal (F := Ideal) (φ := .f32) .gt l.1 r.1)
    (res_main_v78 V0 : FVec Ideal S32000 .f32) number

/-- No place comes twice in the descending order. -/
theorem top_injective : Function.Injective (top V0) := rearranged_injective _ _ _
/-- Every place comes in the descending order. -/
theorem top_surjective : Function.Surjective (top V0) := rearranged_surjective _ _ _

/-- The descending order lists the places from the greatest number down, equals in order of place. -/
theorem top_before {i j : Fin 32000} (h : i < j) :
    Before (fun v => OrderDual.toDual (pot V0 v)) (top V0 i) (top V0 j) := by
  refine rearranged_before (n := 32000) _ _ _ (fun v => OrderDual.toDual (pot V0 v)) (fun a b => ?_) h
  rw [OrderDual.toDual_lt_toDual]
  change Ideal.cmp .ogt (pot V0 a) (pot V0 b) = 1#1 ↔ _
  by_cases h : pot V0 b < pot V0 a <;> simp [Ideal.cmp, h]

/-- The number of a place, read at the place. -/
theorem number_at (v : Fin 32000) : number (ix1 v) = BitVec.ofNat 32 v.val := by
  pointwise [number]

/-- An entry of the vector in descending order, and its place's number. -/
theorem descending_at (k : Fin 32000) :
    (Host.sort2 S32000 0 (fun l r : EReal × BitVec 32 => FloatOps.cmpfTotal (F := Ideal) (φ := .f32) .gt l.1 r.1)
        (res_main_v78 V0 : FVec Ideal S32000 .f32) number).1 (ix1 k) = pot V0 (top V0 k)
      ∧ (Host.sort2 S32000 0 (fun l r : EReal × BitVec 32 => FloatOps.cmpfTotal (F := Ideal) (φ := .f32) .gt l.1 r.1)
        (res_main_v78 V0 : FVec Ideal S32000 .f32) number).2 (ix1 k) = BitVec.ofNat 32 (top V0 k).val :=
  have h := sorted_pair (n := 32000) (fun l r : EReal × BitVec 32 => FloatOps.cmpfTotal (F := Ideal) (φ := .f32) .gt l.1 r.1)
    (res_main_v78 V0 : FVec Ideal S32000 .f32) number k
  ⟨h.1, h.2.trans (number_at (top V0 k))⟩

attribute [local irreducible] top pot

/-- The first of the vector in descending order is the place of the greatest magnitude. -/
theorem top_zero : (top V0 0).val = (star V0).val := by
  by_contra hne
  obtain ⟨k, hk⟩ := top_surjective V0 ⟨(star V0).val, by omega⟩
  have h0 : 0 < k := by
    rw [Fin.pos_iff_ne_zero]
    intro e
    rw [e] at hk
    exact hne (by rw [hk])
  have hlt := pot_lt V0 hne
  have hs : pot V0 (top V0 k) = 1 := pot_star V0 (by rw [hk])
  rcases top_before V0 h0 with h | ⟨h, -⟩
  · have h' : pot V0 (top V0 k) < pot V0 (top V0 0) := OrderDual.toDual_lt_toDual.1 h
    rw [hs] at h'
    exact lt_asymm h' hlt
  · have h' : pot V0 (top V0 0) = pot V0 (top V0 k) := OrderDual.toDual_inj.1 h
    rw [hs] at h'
    exact hlt.ne h'

/-- The five greatest numbers are the first five of the descending order. -/
theorem values_at (k : Fin 5) :
    (res_main_values V0 : FVec Ideal S5 .f32) (ix1 k) = pot V0 (top V0 ⟨k.val, by omega⟩) := by
  have e : (res_main_values V0 : FVec Ideal S5 .f32) (ix1 k)
      = (Host.sort2 S32000 0 (fun l r : EReal × BitVec 32 => FloatOps.cmpfTotal (F := Ideal) (φ := .f32) .gt l.1 r.1)
          (res_main_v78 V0 : FVec Ideal S32000 .f32) number).1 (ix1 ⟨k.val, by omega⟩) := by
    pointwise [res_main_values, Host.topK]
    rfl
  exact e.trans (descending_at V0 _).1

/-- Their indices are the first five places of the descending order. -/
theorem indices_at (k : Fin 5) :
    (res_main_indices V0 : IVec S5 32) (ix1 k) = BitVec.ofNat 32 (top V0 ⟨k.val, by omega⟩).val := by
  have e : (res_main_indices V0 : IVec S5 32) (ix1 k)
      = (Host.sort2 S32000 0 (fun l r : EReal × BitVec 32 => FloatOps.cmpfTotal (F := Ideal) (φ := .f32) .gt l.1 r.1)
          (res_main_v78 V0 : FVec Ideal S32000 .f32) number).2 (ix1 ⟨k.val, by omega⟩) := by
    pointwise [res_main_indices, Host.topK]
    rfl
  exact e.trans (descending_at V0 _).2

/-- The word of all zeros is zero. -/
theorem zero_word : Ideal.ofBits .f32 0x00000000#32 = (0 : EReal) := by simp

/-- The boosted vector over the vocabulary. -/
def boosted : FVec Ideal S32000 .f32 :=
  Host.scatterAdd scatter_S32000_S5x1_S5_n_0_0_1 (broadcastInDim S32000 ![] bcast_S_S32000 (constant S_ .f32 0x3F800000#32))
    (broadcastInDim S5x1 ![0] bcast_S5_S5x1_0
      (select (cmpi .slt (res_main_indices V0) (broadcastInDim S5 ![] bcast_S_S5 (constantI S_ 32 0#32)))
        (addi (res_main_indices V0) (broadcastInDim S5 ![] bcast_S_S5 (constantI S_ 32 32000#32))) (res_main_indices V0)))
    (select (cmpf .oge (res_main_values V0) (broadcastInDim S5 ![] bcast_S_S5 (constant S_ .f32 0x3F800000#32)))
      (res_main_values V0) (broadcastInDim S5 ![] bcast_S_S5 (id (constant S_ .f32 0x00000000#32))))

/-- The boosted vector is two at the place of the greatest magnitude and one elsewhere. -/
theorem boosted_at (v : Fin 32000) : boosted V0 (ix1 v) = if v.val = (star V0).val then (2 : EReal) else 1 := by
  unfold boosted
  refine (scatter_sum (N := 32000) (k := 5) scatter_S32000_S5x1_S5_n_0_0_1 rfl rfl rfl _ _ _ v).trans ?_
  have h1 : (broadcastInDim S32000 ![] bcast_S_S32000 (constant (F := Ideal) S_ .f32 0x3F800000#32) : FVec Ideal S32000 .f32)
      (ix1 v) = (1 : EReal) := by
    pointwise []
  refine (congrArg (fun a : EReal => a + _) h1).trans ?_
  have hb : ∀ k : Fin 5, (select (cmpf .oge (res_main_values V0) (broadcastInDim S5 ![] bcast_S_S5 (constant S_ .f32 0x3F800000#32)))
      (res_main_values V0) (broadcastInDim S5 ![] bcast_S_S5 (id (constant S_ .f32 0x00000000#32))) : FVec Ideal S5 .f32) (ix1 k)
      = if k = 0 then (1 : EReal) else 0 := fun k => by
    pointwise []
    rw [values_at]
    by_cases hk : k = 0
    · subst hk
      have ht : pot V0 (top V0 ⟨(0 : Fin 5).val, by omega⟩) = 1 := pot_star V0 (top_zero V0)
      rw [ht, if_pos le_rfl, if_pos rfl]
    · have hne : (top V0 ⟨k.val, by omega⟩).val ≠ (star V0).val := fun e =>
        hk (Fin.ext (by
          have := congrArg Fin.val (top_injective V0 (Fin.ext (e.trans (top_zero V0).symm)))
          exact this))
      rw [if_neg (not_le.2 (pot_lt V0 hne)), if_neg hk]
      exact zero_word
  have hp : ∀ k : Fin 5, ((broadcastInDim S5x1 ![0] bcast_S5_S5x1_0
      (select (cmpi .slt (res_main_indices V0) (broadcastInDim S5 ![] bcast_S_S5 (constantI S_ 32 0#32)))
        (addi (res_main_indices V0) (broadcastInDim S5 ![] bcast_S_S5 (constantI S_ 32 32000#32))) (res_main_indices V0)) :
      IVec S5x1 32) (ix2 k 0)).toInt = ((top V0 ⟨k.val, by omega⟩).val : ℤ) := fun k => by
    pointwise []
    rw [indices_at, wrap_word _ (by omega)]
  rw [Finset.sum_eq_single (0 : Fin 5)]
  · rw [hp, hb, if_pos rfl, show (top V0 ⟨(0 : Fin 5).val, by omega⟩).val = (star V0).val from top_zero V0]
    by_cases h : v.val = (star V0).val
    · rw [if_pos (by rw [h]), if_pos h, one_add_one_eq_two]
    · rw [if_neg (fun e => h (Int.natCast_inj.1 e).symm), if_neg h, add_zero]
  · intro k _ hk
    rw [hb, if_neg hk, ite_self]
  · intro h; exact absurd (Finset.mem_univ _) h

/-- The boosted vector at a coordinate of the context is the coordinate's gain. -/
theorem gain_at (h : Fin 256) : boosted V0 (ix1 ⟨h.val, by omega⟩) = (net V0).gain h := by
  classical
  rw [boosted_at, Net.gain]
  refine if_congr ⟨fun e => ?_, fun w => ?_⟩ rfl rfl
  · rw [show h = star V0 from Fin.ext e]; exact star_wins V0
  · rw [Wins.unique w (star_wins V0)]

end Cert.ReferenceIdeal.Hand

end
-- ==== Proof.Precondition.lean ====
/-
  What the precondition says: every entry of the five arrays that decide the gates is a real number, and the output bias is
  zero.
-/
module

public import proofs.«01_k».proof.Proof.HostPrep
public import proofs.«01_k».proof.Pre_finite_gate_zero_bias
public import proofs.«01_k».proof.Proof.Gen.Pre_finite_gate_zero_bias
public import Idealize.ShloMosaic.Lib.ReduceAll

@[expose] public section

set_option maxRecDepth 16384

noncomputable section

namespace Cert.Pre_finite_gate_zero_bias.Hand

open Cert.Pre_finite_gate_zero_bias Cert.Pre_finite_gate_zero_bias.Gen Facts
open Idealize.ShloMosaic

/-- A number whose magnitude is below infinity is a real number. -/
theorem finite_of_abs (a : EReal) (h : Ideal.cmp .olt (max a (-a)) (Ideal.ofBits .f32 0x7F800000#32) = 1#1) :
    ∃ y : ℝ, a = (y : EReal) := by
  rw [Cert.Hand.bits_top] at h
  have h' : max a (-a) < ⊤ := by
    by_contra hn
    have hc : BitVec.ofBool (decide (max a (-a) < ⊤)) = 0#1 := by rw [decide_eq_false hn]; rfl
    exact absurd (hc.symm.trans h) (by decide)
  induction a with
  | bot => exact absurd h' (by simp)
  | top => exact absurd h' (by simp)
  | coe r => exact ⟨r, rfl⟩

/-- A number's shape has one index. -/
instance : Subsingleton S_.Idx := ⟨fun i j => funext fun a => a.elim0⟩

/-- An array all of whose magnitudes the predicate finds below infinity holds real numbers. -/
theorem finite_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ix0 = 1#1) (i : s.Idx) : ∃ y : ℝ, (x i : EReal) = (y : EReal) :=
  finite_of_abs _ (Host.reduce_andi_all _ _ hr hu ix0 h i)

variable (x : FVec Ideal S1024x256 .f32) (wIn : FVec Ideal S256x256 .f32) (bIn : FVec Ideal S256 .f32)
  (gW : FVec Ideal S276x4 .f32) (gB : FVec Ideal S4 .f32) (w1 : FVec Ideal S4x276x16 .f32) (b1 : FVec Ideal S4x16 .f32)
  (w2 : FVec Ideal S4x16x256 .f32) (b2 : FVec Ideal S4x256 .f32) (wOut : FVec Ideal S256x32000 .f32)
  (bOut : FVec Ideal S32000 .f32)

/-- The precondition, taken apart. -/
theorem parts_of_holds (h : fn (F := Ideal) x wIn bIn gW gB w1 b1 w2 b2 wOut bOut = fun _ => 1#1) :
    (∀ i, ∃ y : ℝ, (x i : EReal) = (y : EReal)) ∧ (∀ i, ∃ y : ℝ, (wIn i : EReal) = (y : EReal))
      ∧ (∀ i, ∃ y : ℝ, (bIn i : EReal) = (y : EReal)) ∧ (∀ i, ∃ y : ℝ, (gW i : EReal) = (y : EReal))
      ∧ (∀ i, ∃ y : ℝ, (gB i : EReal) = (y : EReal)) ∧ ∀ i, (bOut i : EReal) = 0 := by
  have h0 := congrFun h ix0
  obtain ⟨h1, hbias⟩ := IntOp.andi_eq_one.1 h0
  obtain ⟨h2, hgB⟩ := IntOp.andi_eq_one.1 h1
  obtain ⟨h3, hgW⟩ := IntOp.andi_eq_one.1 h2
  obtain ⟨h4, hbIn⟩ := IntOp.andi_eq_one.1 h3
  obtain ⟨hx, hwIn⟩ := IntOp.andi_eq_one.1 h4
  refine ⟨finite_of_all x _ _ _ hx, finite_of_all wIn _ _ _ hwIn, finite_of_all bIn _ _ _ hbIn, finite_of_all gW _ _ _ hgW,
    finite_of_all gB _ _ _ hgB, fun i => ?_⟩
  have hi := Host.reduce_andi_all _ _ _ _ ix0 hbias i
  have hc : Ideal.cmp .oeq (bOut i) (Ideal.ofBits .f32 0x00000000#32) = 1#1 := hi
  by_contra hn
  have hz : Ideal.ofBits .f32 0x00000000#32 = (0 : EReal) := by simp
  rw [hz] at hc
  have hc' : BitVec.ofBool (decide ((bOut i : EReal) = 0)) = 0#1 := by rw [decide_eq_false hn]; rfl
  exact absurd (hc'.symm.trans hc) (by decide)

end Cert.Pre_finite_gate_zero_bias.Hand

end
-- ==== Proof.Algebraic.lean ====
/-
  The two programs leave the same array: each is the network's output.
-/
module

public import proofs.«01_k».proof.Defs
public import proofs.«01_k».proof.Proof.ResultArray
public import proofs.«01_k».proof.Proof.RefGain
public import proofs.«01_k».proof.Proof.Precondition

@[expose] public section

set_option maxRecDepth 16384

noncomputable section

namespace Cert.ReferenceIdeal.Hand

open Cert.ReferenceIdeal Cert.ReferenceIdeal.Gen Cert.ReferenceIdeal.Value Facts Cert.Hand
open Idealize.ShloMosaic Idealize.ShloMosaic.StableHlo
open scoped BigOperators

variable (V0 : Valuation τ sig (Elt Ideal))

/-- The reference's result, as its operations compose it. -/
def result : FVec Ideal S1024x32000 .f32 :=
  addf (Host.dotGeneral (φ₂ := .f32) dot_S1024x256_S256x32000_S1024x32000_1_0_0_1_n_n none
    (mulf (res_main_v57 V0 : FVec Ideal S1024x256 .f32) (broadcastInDim S1024x256 ![0, 1] bcast_S1x256_S1024x256_0_1
      (broadcastInDim S1x256 ![1] bcast_S256_S1x256_1 (extractStridedSlice S256 ![0] (boosted V0) slices_S32000_S256_0))))
    (V0 (Proc.devRef .tc main_arg9) : FVec Ideal S256x32000 .f32))
    (broadcastInDim S1024x32000 ![0, 1] bcast_S1x32000_S1024x32000_0_1
      (broadcastInDim S1x32000 ![1] bcast_S32000_S1x32000_1 (V0 (Proc.devRef .tc main_arg10) : FVec Ideal S32000 .f32)))

/-- The reference's result at a row and a vocabulary entry: the network's output and the output bias. -/
theorem result_at (r : Fin 1024) (v : Fin 32000) :
    result V0 (ix2 r v) = (net V0).out r v + (V0 (Proc.devRef .tc main_arg10) : FVec Ideal S32000 .f32) (ix1 v) := by
  have e : result V0 (ix2 r v)
      = (@Finset.sum (Fin 256) EReal _ Finset.univ fun h => @HMul.hMul EReal EReal EReal _
          ((res_main_v57 V0 : FVec Ideal S1024x256 .f32) (ix2 r h)) (boosted V0 (ix1 ⟨h.val, by omega⟩)) * (V0 (Proc.devRef .tc main_arg9) : FVec Ideal S256x32000 .f32) (ix2 h v))
        + (V0 (Proc.devRef .tc main_arg10) : FVec Ideal S32000 .f32) (ix1 v) := by
    pointwise [result]
  rw [e, Net.out]
  refine congrArg (fun a : EReal => a + _) (Finset.sum_congr rfl fun h _ => ?_)
  exact congrArg (fun a : EReal => a * _) (congrArg₂ (fun a b : EReal => a * b) (ctx_at V0 r h) (gain_at V0 h))

end Cert.ReferenceIdeal.Hand

namespace Cert.Hand

open Idealize.ShloMosaic Idealize.SL.Sem

attribute [local instance] Cert.KernelIdeal.Gen.facts Cert.ReferenceIdeal.Gen.facts Cert.Pre_finite_gate_zero_bias.Gen.facts

/-- The kernel and the reference, from the same arguments, of which the precondition holds, end with the same result. -/
theorem same_result : Cert.algebraic_KernelIdeal_ReferenceIdeal_pre_finite_gate_zero_bias := by
  intro m g m' g' hpre hagree
  have hparts := fun c => Cert.Pre_finite_gate_zero_bias.Hand.parts_of_holds _ _ _ _ _ _ _ _ _ _ _ (hpre c)
  have hfin : ∀ c, (Cert.KernelIdeal.Hand.net m c).Finite := fun c =>
    ⟨fun r k => (hparts c).1 _, fun r k => (hparts c).2.1 _, fun k => (hparts c).2.2.1 _,
      fun r k => (hparts c).2.2.2.1 _, fun k => (hparts c).2.2.2.2.1 _⟩
  refine ⟨fun c => Cert.KernelIdeal.Hand.outArr (Cert.KernelIdeal.Hand.net m c), ?_, ?_⟩
  · refine (θ_run Cert.KernelIdeal.defs _ _).mono (fun r h c => ?_) (Cert.KernelIdeal.Hand.run_main m g)
    exact ⟨Cert.KernelIdeal.Hand.result_eq c h.1 (hfin c), Cert.KernelIdeal.Hand.args_kept h.1 c⟩
  · refine (θ_run Cert.ReferenceIdeal.defs _ _).mono (fun r h c => ?_) (Cert.ReferenceIdeal.Value.run (F := Ideal) m' g')
    refine ⟨(h c).1.trans (?_ : Cert.ReferenceIdeal.Hand.result (StableHlo.launchContents m' c) = _), (h c).2⟩
    obtain ⟨a0, a1, a2, a3, a4, a5, a6, a7, a8, a9, a10⟩ := hagree c
    have hnet : Cert.ReferenceIdeal.Hand.net (StableHlo.launchContents m' c) = Cert.KernelIdeal.Hand.net m c := by
      unfold Cert.ReferenceIdeal.Hand.net Cert.KernelIdeal.Hand.net
      rw [Net.mk.injEq]
      exact ⟨funext₂ fun r k => congrFun a0 (ix2 r k), funext₂ fun k h => congrFun a1 (ix2 k h),
        funext fun h => congrFun a2 (ix1 h), funext₂ fun d e => congrFun a3 (ix2 d e), funext fun e => congrFun a4 (ix1 e),
        funext fun e => funext₂ fun d k => congrFun a5 (ix3 e d k), funext₂ fun e k => congrFun a6 (ix2 e k),
        funext fun e => funext₂ fun k h => congrFun a7 (ix3 e k h), funext₂ fun e h => congrFun a8 (ix2 e h),
        funext₂ fun h v => congrFun a9 (ix2 h v)⟩
    refine funext fun i => ?_
    obtain ⟨r', v, rfl⟩ : ∃ (r' : Fin 1024) (v : Fin 32000), i = ix2 r' v := ⟨i 0, i 1, by
      funext a
      match a with
      | ⟨0, _⟩ => rfl
      | ⟨1, _⟩ => rfl⟩
    have hb : (StableHlo.launchContents m' c (Proc.devRef .tc Cert.ReferenceIdeal.main_arg10)
        : FVec Ideal Cert.ReferenceIdeal.S32000 .f32) (ix1 v) = (0 : EReal) :=
      (congrFun a10 (ix1 v)).trans ((hparts c).2.2.2.2.2 (ix1 v))
    refine (Cert.ReferenceIdeal.Hand.result_at (StableHlo.launchContents m' c) r' v).trans ?_
    rw [hb, hnet]
    exact add_zero _

end Cert.Hand

end
-- ==== Proof.lean ====
/- The proof of everything the certificate claims, from the theorems of the modules below. -/
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_gate_zero_bias
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_finite_gate_zero_bias.Gen.facts,
    Cert.Hand.kernel_frame, Cert.Hand.kernelIdeal_frame, Cert.Hand.kernelIdeal_frame_pre, Cert.Hand.referenceIdeal_frame,
    Cert.Hand.referenceIdeal_frame_pre, Cert.Hand.named_constant, Cert.Hand.same_result⟩

end Cert.Proof

end
